-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "logit_1" .f32 0xC00C9F54#32 ((Real.log (13421773 / 120795955) : ℝ) : EReal)
  ∧ IdealRules.named_const.Statement Cert.KernelIdeal.κ "logit_2" .f32 0xBFB17218#32 ((Real.log (13421773 / 53687091) : ℝ) : EReal)
  ∧ IdealRules.named_const.Statement Cert.KernelIdeal.κ "logit_3" .f32 0xBF58E882#32 ((Real.log (5033165 / 11744051) : ℝ) : EReal)
  ∧ IdealRules.named_const.Statement Cert.KernelIdeal.κ "logit_4" .f32 0xBECF991F#32 ((Real.log (13421773 / 20132659) : ℝ) : EReal)
  ∧ IdealRules.named_const.Statement Cert.KernelIdeal.κ "logit_6" .f32 0x3ECF9923#32 ((Real.log (5033165 / 3355443) : ℝ) : EReal)
  ∧ IdealRules.named_const.Statement Cert.KernelIdeal.κ "logit_7" .f32 0x3F58E882#32 ((Real.log (11744051 / 5033165) : ℝ) : EReal)
  ∧ IdealRules.named_const.Statement Cert.KernelIdeal.κ "logit_8" .f32 0x3FB17219#32 ((Real.log (13421773 / 3355443) : ℝ) : EReal)
  ∧ IdealRules.named_const.Statement Cert.KernelIdeal.κ "logit_9" .f32 0x400C9F53#32 ((Real.log (7549747 / 838861) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x100 : Shape := ⟨2, ![16384, 100]⟩
abbrev S16384 : Shape := ⟨1, ![16384]⟩
abbrev S100 : Shape := ⟨1, ![100]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel

variable [Facts]

def fn {F : FTy → Type} [FloatOps F] (main_arg0 : FVec F S16384x100 .f32) (main_arg1 : IVec S16384 32) (main_arg2 : FVec F S100 .f32) : IVec S_ 1 :=
  let main_v0 : FVec F S16384x100 .f32 := Host.absf main_arg0
  let main_cst : FVec F S_ .f32 := constant S_ .f32 0x7F800000#32
  let main_v1 : FVec F S16384x100 .f32 := broadcastInDim S16384x100 ![] bcast_S_S16384x100 main_cst
  let main_v2 : IVec S16384x100 1 := cmpf .olt main_v0 main_v1
  let main_c : IVec S_ 1 := constantI S_ 1 1#1
  let main_v3 : IVec S_ 1 := (fun x v => Host.reduce IntOp.andi x v reducesTo_S16384x100_S_d0_1 h_S_) main_v2 main_c
  main_v3
-- ==== Kernel.lean ====
abbrev S16384x100 : Shape := ⟨2, ![16384, 100]⟩
abbrev S16384 : Shape := ⟨1, ![16384]⟩
abbrev S100 : Shape := ⟨1, ![100]⟩
abbrev S2x1x20 : Shape := ⟨3, ![2, 1, 20]⟩
abbrev S4096x100 : Shape := ⟨2, ![4096, 100]⟩
abbrev S4096 : Shape := ⟨1, ![4096]⟩
abbrev S1x1x20 : Shape := ⟨3, ![1, 1, 20]⟩
abbrev S20 : Shape := ⟨1, ![20]⟩
abbrev S1 : Shape := ⟨1, ![1]⟩
abbrev S4096x1 : Shape := ⟨2, ![4096, 1]⟩
abbrev S1x100 : Shape := ⟨2, ![1, 100]⟩
abbrev S4096x28 : Shape := ⟨2, ![4096, 28]⟩
abbrev S4096x128 : Shape := ⟨2, ![4096, 128]⟩
abbrev S128 : Shape := ⟨1, ![128]⟩
abbrev S1x128 : Shape := ⟨2, ![1, 128]⟩
abbrev S1x1 : Shape := ⟨2, ![1, 1]⟩
abbrev S1x4096x1 : Shape := ⟨3, ![1, 4096, 1]⟩
abbrev S1x1x1 : Shape := ⟨3, ![1, 1, 1]⟩
abbrev S_ : Shape := ⟨0, ![]⟩
abbrev S9 : Shape := ⟨1, ![9]⟩
abbrev S11 : Shape := ⟨1, ![11]⟩
abbrev S10 : Shape := ⟨1, ![10]⟩

abbrev nBuf : Space → Nat
  | .hbm => 61
  | .vmem => 5
  | .smem => 3
  | _ => 0

abbrev bufTy : (tb : Table) → Fin (tcTables nBuf tb) → BufTy
  | .hbm, ⟨0, _⟩ => ⟨S16384x100, .f32⟩
  | .hbm, ⟨1, _⟩ => ⟨S16384, .i32⟩
  | .hbm, ⟨2, _⟩ => ⟨S100, .f32⟩
  | .hbm, ⟨3, _⟩ => ⟨S2x1x20, .f32⟩
  | .hbm, ⟨4, _⟩ => ⟨S1x1x20, .f32⟩
  | .hbm, ⟨5, _⟩ => ⟨S20, .f32⟩
  | .hbm, ⟨6, _⟩ => ⟨S1x1x20, .f32⟩
  | .hbm, ⟨7, _⟩ => ⟨S20, .f32⟩
  | .hbm, ⟨8, _⟩ => ⟨S20, .f32⟩
  | .hbm, ⟨9, _⟩ => ⟨S_, .f32⟩
  | .hbm, ⟨10, _⟩ => ⟨S1, .f32⟩
  | .hbm, ⟨11, _⟩ => ⟨S9, .f32⟩
  | .hbm, ⟨12, _⟩ => ⟨S_, .f32⟩
  | .hbm, ⟨13, _⟩ => ⟨S9, .f32⟩
  | .hbm, ⟨14, _⟩ => ⟨S9, .f32⟩
  | .hbm, ⟨15, _⟩ => ⟨S_, .f32⟩
  | .hbm, ⟨16, _⟩ => ⟨S1, .f32⟩
  | .hbm, ⟨17, _⟩ => ⟨S11, .f32⟩
  | .hbm, ⟨18, _⟩ => ⟨S1, .f32⟩
  | .hbm, ⟨19, _⟩ => ⟨S9, .f32⟩
  | .hbm, ⟨20, _⟩ => ⟨S_, .f32⟩
  | .hbm, ⟨21, _⟩ => ⟨S1, .f32⟩
  | .hbm, ⟨22, _⟩ => ⟨S11, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S_, .f32⟩
  | .hbm, ⟨27, _⟩ => ⟨S10, .f32⟩
  | .hbm, ⟨28, _⟩ => ⟨S10, .i1⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .i1⟩
  | .hbm, ⟨39, _⟩ => ⟨S10, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .local _ .vmem, ⟨0, _⟩ => ⟨S4096x100, .f32⟩
  | .local _ .vmem, ⟨1, _⟩ => ⟨S4096x100, .f32⟩
  | .local _ .vmem, ⟨2, _⟩ => ⟨S4096, .i32⟩
  | .local _ .vmem, ⟨3, _⟩ => ⟨S4096, .i32⟩
  | .local _ .vmem, ⟨4, _⟩ => ⟨S100, .f32⟩
  | .local _ .smem, ⟨0, _⟩ => ⟨S1x1x20, .f32⟩
  | .local _ .smem, ⟨1, _⟩ => ⟨S1x1x20, .f32⟩
  | .local _ .smem, ⟨2, _⟩ => ⟨S20, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.smem, 0, rfl⟩
abbrev cc0_stg3_1 : Ref sig .tc := ⟨.smem, 1, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v257 : BitVec 1 := Scalar.cmpi .eq arg1 c1_i32
  let v258 : BitVec 32 := Scalar.extui v257
  let c0_i32_106 : BitVec 32 := 0#32
  let v259 : BitVec 1 := Scalar.cmpi .ne v258 c0_i32_106
  v259

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .smem S1x1x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "logit_1" => some ((Real.log (13421773 / 120795955) : ℝ) : EReal)
  | "logit_2" => some ((Real.log (13421773 / 53687091) : ℝ) : EReal)
  | "logit_3" => some ((Real.log (5033165 / 11744051) : ℝ) : EReal)
  | "logit_4" => some ((Real.log (13421773 / 20132659) : ℝ) : EReal)
  | "logit_6" => some ((Real.log (5033165 / 3355443) : ℝ) : EReal)
  | "logit_7" => some ((Real.log (11744051 / 5033165) : ℝ) : EReal)
  | "logit_8" => some ((Real.log (13421773 / 3355443) : ℝ) : EReal)
  | "logit_9" => some ((Real.log (7549747 / 838861) : ℝ) : EReal)
  | _ => none
-- ==== ReferenceIdeal.lean ====
abbrev S16384x100 : Shape := ⟨2, ![16384, 100]⟩
abbrev S16384 : Shape := ⟨1, ![16384]⟩
abbrev S100 : Shape := ⟨1, ![100]⟩
abbrev S16384x1 : Shape := ⟨2, ![16384, 1]⟩
abbrev S1x100 : Shape := ⟨2, ![1, 100]⟩
abbrev S_ : Shape := ⟨0, ![]⟩

abbrev nBuf : Space → Nat
  | .hbm => 283
  | .vmem => 0
  | .smem => 0
  | _ => 0

abbrev hbmTy0_0 (i : Nat) : BufTy := match i % 128 with
  | 0 => ⟨S16384x100, .f32⟩
  | 1 => ⟨S16384, .i32⟩
  | 2 => ⟨S100, .f32⟩
  | 3 => ⟨S16384x1, .i32⟩
  | 4 => ⟨S1x100, .i32⟩
  | 5 => ⟨S16384x100, .i32⟩
  | 6 => ⟨S16384x100, .i32⟩
  | 7 => ⟨S16384x100, .i1⟩
  | 8 => ⟨S16384x100, .f32⟩
  | 9 => ⟨S1x100, .f32⟩
  | 10 => ⟨S16384x100, .f32⟩
  | 11 => ⟨S16384x100, .f32⟩
  | 12 => ⟨S_, .f32⟩
  | 13 => ⟨S16384, .f32⟩
  | 14 => ⟨S16384x1, .f32⟩
  | 15 => ⟨S16384x100, .f32⟩
  | 16 => ⟨S16384x100, .f32⟩
  | 17 => ⟨S16384x100, .f32⟩
  | 18 => ⟨S_, .f32⟩
  | 19 => ⟨S16384x100, .f32⟩
  | 20 => ⟨S16384x100, .f32⟩
  | 21 => ⟨S_, .f32⟩
  | 22 => ⟨S16384x100, .f32⟩
  | 23 => ⟨S16384x100, .f32⟩
  | 24 => ⟨S16384x100, .f32⟩
  | 25 => ⟨S16384x100, .f32⟩
  | 26 => ⟨S_, .f32⟩
  | 27 => ⟨S16384x100, .f32⟩
  | 28 => ⟨S_, .f32⟩
  | 29 => ⟨S16384x100, .f32⟩
  | 30 => ⟨S16384x100, .i1⟩
  | 31 => ⟨S_, .f32⟩
  | 32 => ⟨S16384x100, .f32⟩
  | 33 => ⟨S16384x100, .i1⟩
  | 34 => ⟨S16384x100, .i1⟩
  | 35 => ⟨S16384x100, .i32⟩
  | 36 => ⟨S_, .i32⟩
  | 37 => ⟨S_, .i32⟩
  | 38 => ⟨S_, .f32⟩
  | 39 => ⟨S_, .f32⟩
  | 40 => ⟨S_, .i1⟩
  | 41 => ⟨S16384x100, .i1⟩
  | 42 => ⟨S16384x100, .i1⟩
  | 43 => ⟨S_, .f32⟩
  | 44 => ⟨S_, .f32⟩
  | 45 => ⟨S_, .f32⟩
  | 46 => ⟨S_, .f32⟩
  | 47 => ⟨S16384x100, .f32⟩
  | 48 => ⟨S16384x100, .f32⟩
  | 49 => ⟨S_, .f32⟩
  | 50 => ⟨S_, .f32⟩
  | 51 => ⟨S_, .f32⟩
  | 52 => ⟨S_, .f32⟩
  | 53 => ⟨S16384x100, .f32⟩
  | 54 => ⟨S16384x100, .i1⟩
  | 55 => ⟨S_, .f32⟩
  | 56 => ⟨S16384x100, .f32⟩
  | 57 => ⟨S16384x100, .i1⟩
  | 58 => ⟨S16384x100, .i1⟩
  | 59 => ⟨S16384x100, .i32⟩
  | 60 => ⟨S_, .i32⟩
  | 61 => ⟨S_, .i32⟩
  | 62 => ⟨S_, .f32⟩
  | 63 => ⟨S_, .f32⟩
  | 64 => ⟨S_, .i1⟩
  | 65 => ⟨S16384x100, .i1⟩
  | 66 => ⟨S16384x100, .i1⟩
  | 67 => ⟨S_, .f32⟩
  | 68 => ⟨S_, .f32⟩
  | 69 => ⟨S_, .f32⟩
  | 70 => ⟨S_, .f32⟩
  | 71 => ⟨S16384x100, .f32⟩
  | 72 => ⟨S16384x100, .f32⟩
  | 73 => ⟨S_, .f32⟩
  | 74 => ⟨S_, .f32⟩
  | 75 => ⟨S_, .f32⟩
  | 76 => ⟨S16384x100, .f32⟩
  | 77 => ⟨S16384x100, .i1⟩
  | 78 => ⟨S_, .f32⟩
  | 79 => ⟨S16384x100, .f32⟩
  | 80 => ⟨S16384x100, .i1⟩
  | 81 => ⟨S16384x100, .i1⟩
  | 82 => ⟨S16384x100, .i32⟩
  | 83 => ⟨S_, .i32⟩
  | 84 => ⟨S_, .i32⟩
  | 85 => ⟨S_, .f32⟩
  | 86 => ⟨S_, .f32⟩
  | 87 => ⟨S_, .i1⟩
  | 88 => ⟨S16384x100, .i1⟩
  | 89 => ⟨S16384x100, .i1⟩
  | 90 => ⟨S_, .f32⟩
  | 91 => ⟨S_, .f32⟩
  | 92 => ⟨S_, .f32⟩
  | 93 => ⟨S_, .f32⟩
  | 94 => ⟨S16384x100, .f32⟩
  | 95 => ⟨S16384x100, .f32⟩
  | 96 => ⟨S_, .f32⟩
  | 97 => ⟨S_, .f32⟩
  | 98 => ⟨S_, .f32⟩
  | 99 => ⟨S16384x100, .f32⟩
  | 100 => ⟨S16384x100, .i1⟩
  | 101 => ⟨S_, .f32⟩
  | 102 => ⟨S16384x100, .f32⟩
  | 103 => ⟨S16384x100, .i1⟩
  | 104 => ⟨S16384x100, .i1⟩
  | 105 => ⟨S16384x100, .i32⟩
  | 106 => ⟨S_, .i32⟩
  | 107 => ⟨S_, .i32⟩
  | 108 => ⟨S_, .f32⟩
  | 109 => ⟨S_, .f32⟩
  | 110 => ⟨S_, .i1⟩
  | 111 => ⟨S16384x100, .i1⟩
  | 112 => ⟨S16384x100, .i1⟩
  | 113 => ⟨S_, .f32⟩
  | 114 => ⟨S_, .f32⟩
  | 115 => ⟨S_, .f32⟩
  | 116 => ⟨S_, .f32⟩
  | 117 => ⟨S16384x100, .f32⟩
  | 118 => ⟨S16384x100, .f32⟩
  | 119 => ⟨S_, .f32⟩
  | 120 => ⟨S_, .f32⟩
  | 121 => ⟨S_, .f32⟩
  | 122 => ⟨S16384x100, .f32⟩
  | 123 => ⟨S16384x100, .i1⟩
  | 124 => ⟨S_, .f32⟩
  | 125 => ⟨S16384x100, .f32⟩
  | 126 => ⟨S16384x100, .i1⟩
  | 127 => ⟨S16384x100, .i1⟩
  | _ => ⟨S16384x100, .f32⟩

abbrev hbmTy0_1 (i : Nat) : BufTy := match i % 128 with
  | 0 => ⟨S16384x100, .i32⟩
  | 1 => ⟨S_, .i32⟩
  | 2 => ⟨S_, .i32⟩
  | 3 => ⟨S_, .f32⟩
  | 4 => ⟨S_, .f32⟩
  | 5 => ⟨S_, .i1⟩
  | 6 => ⟨S16384x100, .i1⟩
  | 7 => ⟨S16384x100, .i1⟩
  | 8 => ⟨S_, .f32⟩
  | 9 => ⟨S_, .f32⟩
  | 10 => ⟨S_, .f32⟩
  | 11 => ⟨S_, .f32⟩
  | 12 => ⟨S16384x100, .f32⟩
  | 13 => ⟨S16384x100, .f32⟩
  | 14 => ⟨S_, .f32⟩
  | 15 => ⟨S_, .f32⟩
  | 16 => ⟨S_, .f32⟩
  | 17 => ⟨S16384x100, .f32⟩
  | 18 => ⟨S16384x100, .i1⟩
  | 19 => ⟨S_, .f32⟩
  | 20 => ⟨S16384x100, .f32⟩
  | 21 => ⟨S16384x100, .i1⟩
  | 22 => ⟨S16384x100, .i1⟩
  | 23 => ⟨S16384x100, .i32⟩
  | 24 => ⟨S_, .i32⟩
  | 25 => ⟨S_, .i32⟩
  | 26 => ⟨S_, .f32⟩
  | 27 => ⟨S_, .f32⟩
  | 28 => ⟨S_, .i1⟩
  | 29 => ⟨S16384x100, .i1⟩
  | 30 => ⟨S16384x100, .i1⟩
  | 31 => ⟨S_, .f32⟩
  | 32 => ⟨S_, .f32⟩
  | 33 => ⟨S_, .f32⟩
  | 34 => ⟨S_, .f32⟩
  | 35 => ⟨S16384x100, .f32⟩
  | 36 => ⟨S16384x100, .f32⟩
  | 37 => ⟨S_, .f32⟩
  | 38 => ⟨S_, .f32⟩
  | 39 => ⟨S_, .f32⟩
  | 40 => ⟨S16384x100, .f32⟩
  | 41 => ⟨S16384x100, .i1⟩
  | 42 => ⟨S_, .f32⟩
  | 43 => ⟨S16384x100, .f32⟩
  | 44 => ⟨S16384x100, .i1⟩
  | 45 => ⟨S16384x100, .i1⟩
  | 46 => ⟨S16384x100, .i32⟩
  | 47 => ⟨S_, .i32⟩
  | 48 => ⟨S_, .i32⟩
  | 49 => ⟨S_, .f32⟩
  | 50 => ⟨S_, .f32⟩
  | 51 => ⟨S_, .i1⟩
  | 52 => ⟨S16384x100, .i1⟩
  | 53 => ⟨S16384x100, .i1⟩
  | 54 => ⟨S_, .f32⟩
  | 55 => ⟨S_, .f32⟩
  | 56 => ⟨S_, .f32⟩
  | 57 => ⟨S_, .f32⟩
  | 58 => ⟨S16384x100, .f32⟩
  | 59 => ⟨S16384x100, .f32⟩
  | 60 => ⟨S_, .f32⟩
  | 61 => ⟨S_, .f32⟩
  | 62 => ⟨S_, .f32⟩
  | 63 => ⟨S16384x100, .f32⟩
  | 64 => ⟨S16384x100, .i1⟩
  | 65 => ⟨S_, .f32⟩
  | 66 => ⟨S16384x100, .f32⟩
  | 67 => ⟨S16384x100, .i1⟩
  | 68 => ⟨S16384x100, .i1⟩
  | 69 => ⟨S16384x100, .i32⟩
  | 70 => ⟨S_, .i32⟩
  | 71 => ⟨S_, .i32⟩
  | 72 => ⟨S_, .f32⟩
  | 73 => ⟨S_, .f32⟩
  | 74 => ⟨S_, .i1⟩
  | 75 => ⟨S16384x100, .i1⟩
  | 76 => ⟨S16384x100, .i1⟩
  | 77 => ⟨S_, .f32⟩
  | 78 => ⟨S_, .f32⟩
  | 79 => ⟨S_, .f32⟩
  | 80 => ⟨S_, .f32⟩
  | 81 => ⟨S16384x100, .f32⟩
  | 82 => ⟨S16384x100, .f32⟩
  | 83 => ⟨S_, .f32⟩
  | 84 => ⟨S_, .f32⟩
  | 85 => ⟨S_, .f32⟩
  | 86 => ⟨S16384x100, .f32⟩
  | 87 => ⟨S16384x100, .i1⟩
  | 88 => ⟨S_, .f32⟩
  | 89 => ⟨S16384x100, .f32⟩
  | 90 => ⟨S16384x100, .i1⟩
  | 91 => ⟨S16384x100, .i1⟩
  | 92 => ⟨S16384x100, .i32⟩
  | 93 => ⟨S_, .i32⟩
  | 94 => ⟨S_, .i32⟩
  | 95 => ⟨S_, .f32⟩
  | 96 => ⟨S_, .f32⟩
  | 97 => ⟨S_, .i1⟩
  | 98 => ⟨S16384x100, .i1⟩
  | 99 => ⟨S16384x100, .i1⟩
  | 100 => ⟨S_, .f32⟩
  | 101 => ⟨S_, .f32⟩
  | 102 => ⟨S_, .f32⟩
  | 103 => ⟨S_, .f32⟩
  | 104 => ⟨S16384x100, .f32⟩
  | 105 => ⟨S16384x100, .f32⟩
  | 106 => ⟨S_, .f32⟩
  | 107 => ⟨S_, .f32⟩
  | 108 => ⟨S_, .f32⟩
  | 109 => ⟨S16384x100, .f32⟩
  | 110 => ⟨S16384x100, .i1⟩
  | 111 => ⟨S_, .f32⟩
  | 112 => ⟨S16384x100, .f32⟩
  | 113 => ⟨S16384x100, .i1⟩
  | 114 => ⟨S16384x100, .i1⟩
  | 115 => ⟨S16384x100, .i32⟩
  | 116 => ⟨S_, .i32⟩
  | 117 => ⟨S_, .i32⟩
  | 118 => ⟨S_, .f32⟩
  | 119 => ⟨S_, .f32⟩
  | 120 => ⟨S_, .i1⟩
  | 121 => ⟨S16384x100, .i1⟩
  | 122 => ⟨S16384x100, .i1⟩
  | 123 => ⟨S_, .f32⟩
  | 124 => ⟨S_, .f32⟩
  | 125 => ⟨S_, .f32⟩
  | 126 => ⟨S_, .f32⟩
  | 127 => ⟨S16384x100, .f32⟩
  | _ => ⟨S16384x100, .f32⟩

abbrev hbmTy0_2 (i : Nat) : BufTy := match i % 128 with
  | 0 => ⟨S16384x100, .f32⟩
  | 1 => ⟨S_, .f32⟩
  | 2 => ⟨S_, .f32⟩
  | 3 => ⟨S_, .f32⟩
  | 4 => ⟨S_, .i1⟩
  | 5 => ⟨S_, .f32⟩
  | 6 => ⟨S_, .f32⟩
  | 7 => ⟨S16384x100, .f32⟩
  | 8 => ⟨S16384x100, .f32⟩
  | 9 => ⟨S16384x100, .f32⟩
  | 10 => ⟨S_, .f32⟩
  | 11 => ⟨S16384x100, .f32⟩
  | 12 => ⟨S16384x100, .f32⟩
  | 13 => ⟨S16384x100, .f32⟩
  | 14 => ⟨S16384x100, .f32⟩
  | 15 => ⟨S16384x100, .f32⟩
  | 16 => ⟨S16384x100, .f32⟩
  | 17 => ⟨S16384x100, .f32⟩
  | 18 => ⟨S16384x100, .f32⟩
  | 19 => ⟨S16384x100, .f32⟩
  | 20 => ⟨S16384x100, .f32⟩
  | 21 => ⟨S16384x100, .f32⟩
  | 22 => ⟨S_, .f32⟩
  | 23 => ⟨S_, .f32⟩
  | 24 => ⟨S_, .f32⟩
  | 25 => ⟨S_, .f32⟩
  | 26 => ⟨S_, .f32⟩
  | _ => ⟨S16384x100, .f32⟩

abbrev hbmTy (i : Nat) : BufTy := match i / 128 with
  | 0 => hbmTy0_0 i
  | 1 => hbmTy0_1 i
  | 2 => hbmTy0_2 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_call2_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_17 : Ref sig .tc := ⟨.hbm, 83, rfl⟩
abbrev main_v54 : Ref sig .tc := ⟨.hbm, 84, rfl⟩
abbrev main_v55 : Ref sig .tc := ⟨.hbm, 85, rfl⟩
abbrev main_cst_18 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_19 : Ref sig .tc := ⟨.hbm, 90, rfl⟩
abbrev main_v59 : Ref sig .tc := ⟨.hbm, 91, rfl⟩
abbrev main_cst_20 : Ref sig .tc := ⟨.hbm, 92, rfl⟩
abbrev main_v60 : Ref sig .tc := ⟨.hbm, 93, rfl⟩
abbrev main_call3_v0 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_21 : Ref sig .tc := ⟨.hbm, 98, rfl⟩
abbrev main_v64 : Ref sig .tc := ⟨.hbm, 99, rfl⟩
abbrev main_v65 : Ref sig .tc := ⟨.hbm, 100, rfl⟩
abbrev main_cst_22 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_23 : Ref sig .tc := ⟨.hbm, 106, rfl⟩
abbrev main_v70 : Ref sig .tc := ⟨.hbm, 107, rfl⟩
abbrev main_v71 : Ref sig .tc := ⟨.hbm, 108, rfl⟩
abbrev main_cst_24 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_25 : Ref sig .tc := ⟨.hbm, 113, rfl⟩
abbrev main_v75 : Ref sig .tc := ⟨.hbm, 114, rfl⟩
abbrev main_cst_26 : Ref sig .tc := ⟨.hbm, 115, rfl⟩
abbrev main_v76 : Ref sig .tc := ⟨.hbm, 116, rfl⟩
abbrev main_call4_v0 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_27 : Ref sig .tc := ⟨.hbm, 121, rfl⟩
abbrev main_v80 : Ref sig .tc := ⟨.hbm, 122, rfl⟩
abbrev main_v81 : Ref sig .tc := ⟨.hbm, 123, rfl⟩
abbrev main_cst_28 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_29 : Ref sig .tc := ⟨.hbm, 129, rfl⟩
abbrev main_v86 : Ref sig .tc := ⟨.hbm, 130, rfl⟩
abbrev main_v87 : Ref sig .tc := ⟨.hbm, 131, rfl⟩
abbrev main_cst_30 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_31 : Ref sig .tc := ⟨.hbm, 136, rfl⟩
abbrev main_v91 : Ref sig .tc := ⟨.hbm, 137, rfl⟩
abbrev main_cst_32 : Ref sig .tc := ⟨.hbm, 138, rfl⟩
abbrev main_v92 : Ref sig .tc := ⟨.hbm, 139, rfl⟩
abbrev main_call5_v0 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_33 : Ref sig .tc := ⟨.hbm, 144, rfl⟩
abbrev main_v96 : Ref sig .tc := ⟨.hbm, 145, rfl⟩
abbrev main_v97 : Ref sig .tc := ⟨.hbm, 146, rfl⟩
abbrev main_cst_34 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_35 : Ref sig .tc := ⟨.hbm, 152, rfl⟩
abbrev main_v102 : Ref sig .tc := ⟨.hbm, 153, rfl⟩
abbrev main_v103 : Ref sig .tc := ⟨.hbm, 154, rfl⟩
abbrev main_cst_36 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_37 : Ref sig .tc := ⟨.hbm, 159, rfl⟩
abbrev main_v107 : Ref sig .tc := ⟨.hbm, 160, rfl⟩
abbrev main_cst_38 : Ref sig .tc := ⟨.hbm, 161, rfl⟩
abbrev main_v108 : Ref sig .tc := ⟨.hbm, 162, rfl⟩
abbrev main_call6_v0 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_39 : Ref sig .tc := ⟨.hbm, 167, rfl⟩
abbrev main_v112 : Ref sig .tc := ⟨.hbm, 168, rfl⟩
abbrev main_v113 : Ref sig .tc := ⟨.hbm, 169, rfl⟩
abbrev main_cst_40 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_c_41 : Ref sig .tc := ⟨.hbm, 175, rfl⟩
abbrev main_v118 : Ref sig .tc := ⟨.hbm, 176, rfl⟩
abbrev main_v119 : Ref sig .tc := ⟨.hbm, 177, rfl⟩
abbrev main_cst_42 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_43 : Ref sig .tc := ⟨.hbm, 182, rfl⟩
abbrev main_v123 : Ref sig .tc := ⟨.hbm, 183, rfl⟩
abbrev main_cst_44 : Ref sig .tc := ⟨.hbm, 184, rfl⟩
abbrev main_v124 : Ref sig .tc := ⟨.hbm, 185, rfl⟩
abbrev main_call7_v0 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_45 : Ref sig .tc := ⟨.hbm, 190, rfl⟩
abbrev main_v128 : Ref sig .tc := ⟨.hbm, 191, rfl⟩
abbrev main_v129 : Ref sig .tc := ⟨.hbm, 192, rfl⟩
abbrev main_cst_46 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_c_47 : Ref sig .tc := ⟨.hbm, 198, rfl⟩
abbrev main_v134 : Ref sig .tc := ⟨.hbm, 199, rfl⟩
abbrev main_v135 : Ref sig .tc := ⟨.hbm, 200, rfl⟩
abbrev main_cst_48 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_49 : Ref sig .tc := ⟨.hbm, 205, rfl⟩
abbrev main_v139 : Ref sig .tc := ⟨.hbm, 206, rfl⟩
abbrev main_cst_50 : Ref sig .tc := ⟨.hbm, 207, rfl⟩
abbrev main_v140 : Ref sig .tc := ⟨.hbm, 208, rfl⟩
abbrev main_call8_v0 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_cst_51 : Ref sig .tc := ⟨.hbm, 213, rfl⟩
abbrev main_v144 : Ref sig .tc := ⟨.hbm, 214, rfl⟩
abbrev main_v145 : Ref sig .tc := ⟨.hbm, 215, rfl⟩
abbrev main_cst_52 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_c_53 : Ref sig .tc := ⟨.hbm, 221, rfl⟩
abbrev main_v150 : Ref sig .tc := ⟨.hbm, 222, rfl⟩
abbrev main_v151 : Ref sig .tc := ⟨.hbm, 223, rfl⟩
abbrev main_cst_54 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_55 : Ref sig .tc := ⟨.hbm, 228, rfl⟩
abbrev main_v155 : Ref sig .tc := ⟨.hbm, 229, rfl⟩
abbrev main_cst_56 : Ref sig .tc := ⟨.hbm, 230, rfl⟩
abbrev main_v156 : Ref sig .tc := ⟨.hbm, 231, rfl⟩
abbrev main_call9_v0 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_57 : Ref sig .tc := ⟨.hbm, 236, rfl⟩
abbrev main_v160 : Ref sig .tc := ⟨.hbm, 237, rfl⟩
abbrev main_v161 : Ref sig .tc := ⟨.hbm, 238, rfl⟩
abbrev main_cst_58 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_c_59 : Ref sig .tc := ⟨.hbm, 244, rfl⟩
abbrev main_v166 : Ref sig .tc := ⟨.hbm, 245, rfl⟩
abbrev main_v167 : Ref sig .tc := ⟨.hbm, 246, rfl⟩
abbrev main_cst_60 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_cst_61 : Ref sig .tc := ⟨.hbm, 251, rfl⟩
abbrev main_v171 : Ref sig .tc := ⟨.hbm, 252, rfl⟩
abbrev main_cst_62 : Ref sig .tc := ⟨.hbm, 253, rfl⟩
abbrev main_v172 : Ref sig .tc := ⟨.hbm, 254, rfl⟩
abbrev main_call10_v0 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_cst_63 : Ref sig .tc := ⟨.hbm, 259, rfl⟩
abbrev main_v176 : Ref sig .tc := ⟨.hbm, 260, rfl⟩
abbrev main_cst_64 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_cst_65 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_cst_66 : Ref sig .tc := ⟨.hbm, 278, rfl⟩
abbrev main_v192 : Ref sig .tc := ⟨.hbm, 279, rfl⟩
abbrev main_cst_67 : Ref sig .tc := ⟨.hbm, 280, rfl⟩
abbrev main_v193 : Ref sig .tc := ⟨.hbm, 281, rfl⟩
abbrev main_v194 : Ref sig .tc := ⟨.hbm, 282, rfl⟩

abbrev nD : Nat := 1
abbrev τ : Topo := Topo.v7x

variable {F : FTy → Type} [FloatOps F]
-- ==== Proof.Spec.lean ====
/-
  THE LOSS IN REAL NUMBERS, with no program in sight: the gradient-harmonised classification loss of `n` rows of 100
  logits. `X r c` is the logit of row `r` and class `c`, `T r` the row's target (a 32-bit word), `W c` the class weight.
-/
module

public import Mathlib.Analysis.SpecialFunctions.Log.Basic
public import Mathlib.Algebra.BigOperators.Fin
public import Mathlib.Algebra.Order.BigOperators.Group.Finset
public import Mathlib.Data.Fintype.BigOperators
public import Mathlib.Algebra.BigOperators.Field

@[expose] public section

open scoped BigOperators

noncomputable section

namespace Cert.Ghm

/-! ## The bins -/

/-- The eleven bin edges: the float32 words of `0, 1/10, …, 9/10` and of `1 + 1e-6`. -/
def edge : Fin 11 → ℝ :=
  ![0, 13421773 / 134217728, 13421773 / 67108864, 5033165 / 16777216, 13421773 / 33554432, 1 / 2,
    5033165 / 8388608, 11744051 / 16777216, 13421773 / 16777216, 7549747 / 8388608, 1048577 / 1048576]

/-- The logistic function. -/
def logistic (y : ℝ) : ℝ := (1 + Real.exp (-y))⁻¹

theorem logistic_pos (y : ℝ) : 0 < logistic y := by
  unfold logistic
  have := Real.exp_pos (-y)
  positivity

theorem logistic_lt_one (y : ℝ) : logistic y < 1 := by
  unfold logistic
  have := Real.exp_pos (-y)
  exact inv_lt_one_of_one_lt₀ (by linarith)

/-- The logistic function of the opposite number. -/
theorem logistic_neg (y : ℝ) : logistic (-y) = 1 - logistic y := by
  unfold logistic
  have h := Real.exp_pos (-y)
  have h' := Real.exp_pos y
  have e : Real.exp (-y) * Real.exp y = 1 := by rw [← Real.exp_add]; simp
  rw [neg_neg]
  field_simp
  nlinarith

/-- For an edge strictly between 0 and 1, comparing the logistic value with the edge is comparing its argument with the
    edge's logit. -/
theorem logit_le_iff {e : ℝ} (h0 : 0 < e) (h1 : e < 1) (y : ℝ) : Real.log (e / (1 - e)) ≤ y ↔ e ≤ logistic y := by
  have h2 : 0 < 1 - e := by linarith
  rw [Real.log_le_iff_le_exp (div_pos h0 h2), div_le_iff₀ h2]
  unfold logistic
  have hp := Real.exp_pos (-y)
  rw [le_inv_comm₀ h0 (by positivity)]
  have hy := Real.exp_pos y
  rw [Real.exp_neg, ← one_div, ← one_div]
  constructor
  · intro h
    rw [le_div_iff₀ h0]
    have : 1 / Real.exp y * e ≤ 1 - e := by rw [div_mul_eq_mul_div, div_le_iff₀ hy]; linarith
    linarith
  · intro h
    rw [le_div_iff₀ h0] at h
    have : 1 / Real.exp y * e ≤ 1 - e := by linarith
    rw [div_mul_eq_mul_div, div_le_iff₀ hy] at this
    linarith

theorem edge_mono : Monotone edge := by
  refine Fin.monotone_iff_le_succ.2 fun b => ?_
  fin_cases b <;> simp [edge] <;> norm_num

/-- The inner edges lie strictly between 0 and 1. -/
theorem edge_inner (k : Fin 9) : 0 < edge k.succ.castSucc ∧ edge k.succ.castSucc < 1 := by
  fin_cases k <;> constructor <;> simp [edge] <;> norm_num

/-- `y` lies in bin `b`: its logistic value is at least the bin's lower edge and below its upper edge. -/
def InBin (b : Fin 10) (y : ℝ) : Prop := edge b.castSucc ≤ logistic y ∧ logistic y < edge b.succ

instance (b : Fin 10) (y : ℝ) : Decidable (InBin b y) := Classical.propDecidable _

theorem InBin.unique {a b : Fin 10} {y : ℝ} (ha : InBin a y) (hb : InBin b y) : a = b := by
  rcases lt_trichotomy a b with h | h | h
  · have : edge a.succ ≤ edge b.castSucc := edge_mono (by rw [Fin.le_def]; simp; omega)
    exact absurd (this.trans hb.1) (not_le.2 ha.2)
  · exact h
  · have : edge b.succ ≤ edge a.castSucc := edge_mono (by rw [Fin.le_def]; simp; omega)
    exact absurd (this.trans ha.1) (not_le.2 hb.2)

section Bins

variable {I : Type} [Fintype I] (y v : I → ℝ)

/-- How much of `v` sits at or above edge `k`. -/
def above (v : I → ℝ) (k : Fin 11) : ℝ := ∑ i, if edge k ≤ logistic (y i) then v i else 0

/-- How much of `v` sits in bin `b`. -/
def mass (v : I → ℝ) (b : Fin 10) : ℝ := ∑ i, if InBin b (y i) then v i else 0

/-- How many entries sit in bin `b`. -/
def cnt (b : Fin 10) : ℝ := mass y (fun _ => 1) b

/-- How many bins are not empty. -/
def filled : ℝ := ∑ b, if 0 < cnt y b then 1 else 0

/-- The harmonised sum of `v`: over the bins that are not empty, the bin's mass over its count. -/
def perBin : ℝ := ∑ b, if 0 < cnt y b then mass y v b / max (cnt y b) 1 else 0

/-- The numerator of the loss: `N` over the number of bins that are not empty, times the harmonised sum. -/
def harmonised (N : ℝ) : ℝ := N / max (filled y) 1 * perBin y v

/-- A bin's mass is the difference of what sits above its two edges. -/
theorem mass_eq_sub (v : I → ℝ) (b : Fin 10) : mass y v b = above y v b.castSucc - above y v b.succ := by
  unfold mass above
  rw [← Finset.sum_sub_distrib]
  refine Finset.sum_congr rfl fun i _ => ?_
  have hm : edge b.castSucc ≤ edge b.succ := edge_mono (Fin.castSucc_le_succ b)
  by_cases h1 : edge b.succ ≤ logistic (y i)
  · rw [if_neg (fun h => absurd h1 (not_le.2 h.2)), if_pos (hm.trans h1), if_pos h1, sub_self]
  · by_cases h0 : edge b.castSucc ≤ logistic (y i)
    · rw [if_pos ⟨h0, not_le.1 h1⟩, if_pos h0, if_neg h1, sub_zero]
    · rw [if_neg (fun h => h0 h.1), if_neg h0, if_neg h1, sub_zero]

/-- Everything sits above the lowest edge. -/
theorem above_zero (v : I → ℝ) : above y v 0 = ∑ i, v i := by
  unfold above
  refine Finset.sum_congr rfl fun i _ => if_pos ?_
  exact (logistic_pos (y i)).le

/-- Nothing sits above the highest edge. -/
theorem above_last (v : I → ℝ) : above y v (Fin.last 10) = 0 := by
  unfold above
  refine Finset.sum_eq_zero fun i _ => if_neg (not_le.2 ((logistic_lt_one (y i)).trans ?_))
  show (1 : ℝ) < 1048577 / 1048576
  norm_num

theorem mass_nonneg {v : I → ℝ} (hv : ∀ i, 0 ≤ v i) (b : Fin 10) : 0 ≤ mass y v b :=
  Finset.sum_nonneg fun i _ => by split_ifs <;> simp [hv i]

theorem cnt_nonneg (b : Fin 10) : 0 ≤ cnt y b := mass_nonneg y (fun _ => zero_le_one) b

/-- A bin's count is the size of the set of its entries. -/
theorem cnt_eq_card (b : Fin 10) : cnt y b = ((Finset.univ.filter fun i => InBin b (y i)).card : ℝ) := by
  unfold cnt mass
  rw [Finset.sum_boole]

/-- The counts add up to the number of entries. -/
theorem sum_cnt : ∑ b, cnt y b = Fintype.card I := by
  have h : ∀ b : Fin 10, cnt y b = above y (fun _ => 1) b.castSucc - above y (fun _ => 1) b.succ :=
    fun b => mass_eq_sub y _ b
  simp only [h]
  rw [Finset.sum_sub_distrib, ← add_right_inj (above y (fun _ => 1) (Fin.last 10)), ← add_sub_assoc, add_comm,
    ← Fin.sum_univ_castSucc (above y fun _ => 1), Fin.sum_univ_succ (above y fun _ => 1), above_zero, above_last]
  simp

/-- Of a nonempty set of entries some bin is not empty. -/
theorem filled_pos [Nonempty I] : 0 < filled y := by
  have hne : ∃ b, 0 < cnt y b := by
    by_contra hno
    have h0 : ∑ b, cnt y b ≤ 0 := Finset.sum_nonpos fun b _ => not_lt.1 fun h => hno ⟨b, h⟩
    rw [sum_cnt] at h0
    have : 0 < (Fintype.card I : ℝ) := by exact_mod_cast Fintype.card_pos
    linarith
  obtain ⟨b, hb⟩ := hne
  unfold filled
  have : (if 0 < cnt y b then (1 : ℝ) else 0) ≤ ∑ b, if 0 < cnt y b then (1 : ℝ) else 0 :=
    Finset.single_le_sum (f := fun b => if 0 < cnt y b then (1 : ℝ) else 0) (fun b _ => by split_ifs <;> simp)
      (Finset.mem_univ b)
  rw [if_pos hb] at this
  linarith

/-- The weight an entry of value `t` gets: `N` over the count of its bin. -/
def density (N t : ℝ) : ℝ := ∑ b, if InBin b t ∧ 0 < cnt y b then N / max (cnt y b) 1 else 0

/-- Weighting each entry by its bin's density and dividing by the number of bins that are not empty gives the
    harmonised sum. -/
theorem sum_density (N : ℝ) : ∑ i, v i * (density y N (y i) / max (filled y) 1) = harmonised y v N := by
  unfold harmonised perBin density
  rw [Finset.mul_sum]
  have h : ∀ i, v i * ((∑ b, if InBin b (y i) ∧ 0 < cnt y b then N / max (cnt y b) 1 else 0) / max (filled y) 1)
      = ∑ b, if InBin b (y i) ∧ 0 < cnt y b then v i * (N / max (cnt y b) 1 / max (filled y) 1) else 0 := by
    intro i
    rw [Finset.sum_div, Finset.mul_sum]
    refine Finset.sum_congr rfl fun b _ => ?_
    split_ifs <;> simp
  simp only [h]
  rw [Finset.sum_comm]
  refine Finset.sum_congr rfl fun b _ => ?_
  by_cases hb : 0 < cnt y b
  · simp only [hb, and_true, if_true]
    unfold mass
    rw [Finset.sum_div, Finset.mul_sum]
    refine Finset.sum_congr rfl fun i _ => ?_
    split_ifs
    · ring
    · simp
  · simp [hb]

end Bins

/-! ## The entries -/

section Entries

variable {n : ℕ} (X : Fin n → Fin 100 → ℝ) (T : Fin n → BitVec 32) (W : Fin 100 → ℝ)

/-- The logit of an entry, its sign turned at the row's target class. -/
def score (p : Fin n × Fin 100) : ℝ := if T p.1 = BitVec.ofNat 32 p.2.val then -X p.1 p.2 else X p.1 p.2

/-- The weight of a row: its target class's weight. -/
def rowWeight (r : Fin n) : ℝ := ∑ c : Fin 100, if T r = BitVec.ofNat 32 c.val then W c else 0

/-- The binary cross-entropy of an entry at score `y`. -/
def bce (y : ℝ) : ℝ := max y 0 + Real.log (1 + Real.exp (-|y|))

/-- The weighted cross-entropy of an entry. -/
def weighted (p : Fin n × Fin 100) : ℝ := rowWeight T W p.1 * bce (score X T p)

/-- The numerator of the loss. -/
def num : ℝ := harmonised (score X T) (weighted X T W) (n * 100 : ℕ)

/-- The denominator of the loss: the weights of all entries. -/
def den : ℝ := (∑ r, rowWeight T W r) * 100

/-- What the kernel gathers of `n` rows, padded to 128 lanes whose 28 spare ones count at every edge: at 0 to 8 how
    many entries sit above each inner edge, at 9 to 17 how much weighted cross-entropy does, at 18 all of it, at 19 the
    row weights. -/
def tally (k : Fin 20) : ℝ :=
  if h : k.val < 9 then above (score X T) (fun _ => 1) ⟨k.val + 1, by omega⟩ + (n * 28 : ℕ)
  else if h : k.val < 18 then above (score X T) (weighted X T W) ⟨k.val - 8, by omega⟩
  else if k.val = 18 then ∑ p, weighted X T W p
  else ∑ r, rowWeight T W r

/-- What is gathered of all rows is the sum of what is gathered of the blocks they are dealt to. -/
theorem tally_split {A : Type} [Fintype A] {m : ℕ} (e : A × Fin m ≃ Fin n) (k : Fin 20) :
    tally X T W k = ∑ a, tally (fun r => X (e (a, r))) (fun r => T (e (a, r))) W k := by
  have hn : n = Fintype.card A * m := by simpa using (Fintype.card_congr e).symm
  have rows : ∀ f : Fin n → ℝ, ∑ r, f r = ∑ a, ∑ r : Fin m, f (e (a, r)) := fun f => by
    rw [← Equiv.sum_comp e, Fintype.sum_prod_type]
  have pairs : ∀ f : Fin n × Fin 100 → ℝ, ∑ p, f p = ∑ a, ∑ q : Fin m × Fin 100, f (e (a, q.1), q.2) := fun f => by
    rw [Fintype.sum_prod_type, rows]
    simp only [Fintype.sum_prod_type]
  unfold tally
  split_ifs with h1 h2 h3
  · rw [Finset.sum_add_distrib]
    congr 1
    · unfold above
      rw [pairs]
      rfl
    · rw [hn]
      simp
      ring
  · unfold above
    rw [pairs]
    rfl
  · rw [pairs]
    rfl
  · rw [rows]
    rfl

end Entries

end Cert.Ghm
-- ==== Proof.Consts.lean ====
/-
  THE CONSTANTS of the two programs as real numbers: the float32 words they spell, and the named thresholds, each of
  which is the logit of a bin edge.
-/
module

public import proofs.«01_k».proof.Proof.Spec
public import proofs.«01_k».proof.KernelIdeal
public import Idealize.ShloMosaic.PureOps.Ideal.Laws
public import Idealize.ShloMosaic.PureOps.IdealRules

@[expose] public section

noncomputable section

namespace Cert.Ghm

open Idealize.ShloMosaic

/-! ## The words -/

theorem word_zero : (FloatOps.ofBits .f32 0x00000000#32 : Ideal .f32) = ((0 : ℝ) : EReal) := by
  show Ideal.ofBits .f32 _ = _
  simp [Ideal.ofBits, Ideal.ieee, -EReal.coe_mul]

theorem word_one : (FloatOps.ofBits .f32 0x3F800000#32 : Ideal .f32) = ((1 : ℝ) : EReal) := by
  show Ideal.ofBits .f32 _ = _
  simp [Ideal.ofBits, Ideal.ieee, -EReal.coe_mul]; norm_num

theorem word_pad : (FloatOps.ofBits .f32 0x4E6E6B28#32 : Ideal .f32) = ((1000000000 : ℝ) : EReal) := by
  show Ideal.ofBits .f32 _ = _
  simp [Ideal.ofBits, Ideal.ieee, -EReal.coe_mul]; norm_num

theorem word_total : (FloatOps.ofBits .f32 0x49C80000#32 : Ideal .f32) = ((1638400 : ℝ) : EReal) := by
  show Ideal.ofBits .f32 _ = _
  simp [Ideal.ofBits, Ideal.ieee, -EReal.coe_mul]; norm_num

theorem word_spare : (FloatOps.ofBits .f32 0x48E00000#32 : Ideal .f32) = ((458752 : ℝ) : EReal) := by
  show Ideal.ofBits .f32 _ = _
  simp [Ideal.ofBits, Ideal.ieee, -EReal.coe_mul]; norm_num

theorem word_hundred : (FloatOps.ofBits .f32 0x42C80000#32 : Ideal .f32) = ((100 : ℝ) : EReal) := by
  show Ideal.ofBits .f32 _ = _
  simp [Ideal.ofBits, Ideal.ieee, -EReal.coe_mul]; norm_num

/-- The words of the eleven bin edges. -/
def edgeWord : Fin 11 → BitVec 32 :=
  ![0x00000000#32, 0x3DCCCCCD#32, 0x3E4CCCCD#32, 0x3E99999A#32, 0x3ECCCCCD#32, 0x3F000000#32, 0x3F19999A#32,
    0x3F333333#32, 0x3F4CCCCD#32, 0x3F666666#32, 0x3F800008#32]

theorem word_edge (k : Fin 11) : (FloatOps.ofBits .f32 (edgeWord k) : Ideal .f32) = (edge k : EReal) := by
  show Ideal.ofBits .f32 _ = _
  fin_cases k <;> simp [edgeWord, edge, Ideal.ofBits, Ideal.ieee, -EReal.coe_mul] <;> norm_num

/-! ## The thresholds -/

/-- The threshold the kernel compares a score with: the logit of an inner edge. -/
def threshold (k : Fin 9) : ℝ := Real.log (edge k.succ.castSucc / (1 - edge k.succ.castSucc))

theorem threshold_le_iff (k : Fin 9) (y : ℝ) : threshold k ≤ y ↔ edge k.succ.castSucc ≤ logistic y :=
  logit_le_iff (edge_inner k).1 (edge_inner k).2 y

/-- Every threshold lies below the value the spare lanes hold. -/
theorem threshold_le_pad (k : Fin 9) : threshold k ≤ 1000000000 := by
  have h : edge k.succ.castSucc / (1 - edge k.succ.castSucc) ≤ 10 := by
    fin_cases k <;> simp [edge] <;> norm_num
  have h0 : 0 < edge k.succ.castSucc / (1 - edge k.succ.castSucc) :=
    div_pos (edge_inner k).1 (sub_pos.2 (edge_inner k).2)
  have := Real.log_le_sub_one_of_pos h0
  unfold threshold
  linarith

/-- The names of the thresholds, and the words they stand for; the middle one is the literal zero. -/
theorem named_1 : (Named.named Cert.KernelIdeal.κ "logit_1" 0xC00C9F54#32 : Ideal .f32) = (threshold 0 : EReal) := by
  rw [show threshold 0 = Real.log (13421773 / 120795955) by simp [threshold, edge]; norm_num]
  exact IdealRules.named_const.ideal_named_scalar _ _ _ _ rfl

theorem named_2 : (Named.named Cert.KernelIdeal.κ "logit_2" 0xBFB17218#32 : Ideal .f32) = (threshold 1 : EReal) := by
  rw [show threshold 1 = Real.log (13421773 / 53687091) by simp [threshold, edge]; norm_num]
  exact IdealRules.named_const.ideal_named_scalar _ _ _ _ rfl

theorem named_3 : (Named.named Cert.KernelIdeal.κ "logit_3" 0xBF58E882#32 : Ideal .f32) = (threshold 2 : EReal) := by
  rw [show threshold 2 = Real.log (5033165 / 11744051) by simp [threshold, edge]; norm_num]
  exact IdealRules.named_const.ideal_named_scalar _ _ _ _ rfl

theorem named_4 : (Named.named Cert.KernelIdeal.κ "logit_4" 0xBECF991F#32 : Ideal .f32) = (threshold 3 : EReal) := by
  rw [show threshold 3 = Real.log (13421773 / 20132659) by simp [threshold, edge]; norm_num]
  exact IdealRules.named_const.ideal_named_scalar _ _ _ _ rfl

theorem threshold_middle : threshold 4 = 0 := by simp [threshold, edge]; norm_num

theorem named_6 : (Named.named Cert.KernelIdeal.κ "logit_6" 0x3ECF9923#32 : Ideal .f32) = (threshold 5 : EReal) := by
  rw [show threshold 5 = Real.log (5033165 / 3355443) by simp [threshold, edge]; norm_num]
  exact IdealRules.named_const.ideal_named_scalar _ _ _ _ rfl

theorem named_7 : (Named.named Cert.KernelIdeal.κ "logit_7" 0x3F58E882#32 : Ideal .f32) = (threshold 6 : EReal) := by
  rw [show threshold 6 = Real.log (11744051 / 5033165) by simp [threshold, edge]; norm_num]
  exact IdealRules.named_const.ideal_named_scalar _ _ _ _ rfl

theorem named_8 : (Named.named Cert.KernelIdeal.κ "logit_8" 0x3FB17219#32 : Ideal .f32) = (threshold 7 : EReal) := by
  rw [show threshold 7 = Real.log (13421773 / 3355443) by simp [threshold, edge]; norm_num]
  exact IdealRules.named_const.ideal_named_scalar _ _ _ _ rfl

theorem named_9 : (Named.named Cert.KernelIdeal.κ "logit_9" 0x400C9F53#32 : Ideal .f32) = (threshold 8 : EReal) := by
  rw [show threshold 8 = Real.log (7549747 / 838861) by simp [threshold, edge]; norm_num]
  exact IdealRules.named_const.ideal_named_scalar _ _ _ _ rfl

end Cert.Ghm
-- ==== Proof.Weights.lean ====
/-
  A ROW'S WEIGHT WHERE A CLASS WEIGHT MAY BE INFINITE: the weight of the row's target class, a real when that class
  weight is one; and how an infinite one passes through sums to the quotient it divides.
-/
module

public import proofs.«01_k».proof.Proof.Spec
public import Idealize.ShloMosaic.PureOps.Ideal

@[expose] public section

noncomputable section

namespace Cert.Ghm

open Idealize.ShloMosaic

/-- A finite sum of real numbers is the sum of their embeddings. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_ite (p : Prop) [Decidable p] (a b : ℝ) :
    ((if p then a else b : ℝ) : EReal) = if p then (a : EReal) else (b : EReal) := apply_ite _ _ _ _

section Chosen

variable {n : ℕ} (T : Fin n → BitVec 32) (w : Fin 100 → EReal) (r : Fin n)

/-- The weight of a row: its target class's weight, nothing where the target is no class. -/
def chosen : EReal := ∑ c : Fin 100, if T r = BitVec.ofNat 32 c.val then w c else 0

/-- Where the class that a row's target names has a real weight, the row's weight is that of the real weights. -/
theorem chosen_real {W : Fin 100 → ℝ} (h : ∀ c : Fin 100, T r = BitVec.ofNat 32 c.val → w c = (W c : EReal)) :
    chosen T w r = (rowWeight T W r : EReal) := by
  unfold chosen rowWeight
  rw [coe_sum]
  refine Finset.sum_congr rfl fun c _ => ?_
  split_ifs with hc
  · exact h c hc
  · rfl

end Chosen

/-- An infinite value, of either sign. -/
def Boundless (x : EReal) : Prop := x = ⊤ ∨ x = ⊥

namespace Boundless

variable {x : EReal}

theorem of_not_real (h : x ≠ ((x.toReal : ℝ) : EReal)) : Boundless x := by
  by_contra hn
  exact h (EReal.coe_toReal (fun e => hn (.inl e)) fun e => hn (.inr e)).symm

theorem add_right (h : Boundless x) (y : EReal) : Boundless (x + y) := by
  rcases h with rfl | rfl
  · by_cases hy : y = ⊥
    · exact .inr (by rw [hy, EReal.add_bot])
    · exact .inl (EReal.top_add_of_ne_bot hy)
  · exact .inr (EReal.bot_add y)

theorem add_left (h : Boundless x) (y : EReal) : Boundless (y + x) := add_comm x y ▸ h.add_right y

theorem sum {ι : Type} [Fintype ι] {f : ι → EReal} (i : ι) (h : Boundless (f i)) : Boundless (∑ j, f j) := by
  classical
  rw [← Finset.add_sum_erase _ f (Finset.mem_univ i)]
  exact h.add_right _

theorem mul_pos (h : Boundless x) {a : ℝ} (ha : 0 < a) : Boundless (x * (a : EReal)) := by
  rcases h with rfl | rfl
  · exact .inl (EReal.top_mul_coe_of_pos ha)
  · exact .inr (EReal.bot_mul_coe_of_pos ha)

/-- A quotient by an infinite value is zero. -/
theorem div_eq (h : Boundless x) (y : EReal) : Ideal.div y x = 0 := by
  unfold Ideal.div
  rcases h with rfl | rfl
  · rw [if_neg EReal.top_ne_zero, EReal.inv_top, mul_zero]
  · rw [if_neg EReal.bot_ne_zero, EReal.inv_bot, mul_zero]

/-- A row whose target's class weight is infinite has an infinite weight. -/
theorem chosen {n : ℕ} {T : Fin n → BitVec 32} {w : Fin 100 → EReal} {r : Fin n} {c : Fin 100}
    (hc : T r = BitVec.ofNat 32 c.val) (h : Boundless (w c)) : Boundless (Ghm.chosen T w r) :=
  sum c (by rw [if_pos hc]; exact h)

end Boundless

end Cert.Ghm
-- ==== Proof.Payload.lean ====
/-
  WHAT ONE BLOCK ADDS TO ONE CELL, over the reals: the kernel's twenty payloads, each the running cell plus the block's
  own tally.
-/
module

public import proofs.«01_k».proof.Proof.Consts
public import proofs.«01_k».proof.Proof.Weights
public import proofs.«01_k».proof.Proof.Gen.KernelIdeal.Skeleton
public import Idealize.ShloMosaic.Lib.Pointwise
public import Idealize.ShloMosaic.PureOps.Ideal.Laws

@[expose] public section

set_option maxRecDepth 65536

noncomputable section

namespace Cert.Ghm

open Idealize.ShloMosaic Cert.KernelIdeal Cert.KernelIdeal.Gen

section Step

variable {F : FTy → Type} [FloatOps F] [Named F]

/-- What the kernel stores in cell `k` for a block of logits `x`, targets `t` and class weights `w`, when the cell's
    running value is `a`. -/
def step (x : Vec F S4096x100 .f32) (t : Vec F S4096 .i32) (w : Vec F S100 .f32) (k : Fin 20) (a : F .f32) : F .f32 :=
  (![k0_pay9 (k0_pay6 x t) a k0_pay7 k0_pay8, k0_pay12 (k0_pay4 x t) a, k0_pay16 (k0_pay4 x t) a,
    k0_pay19 (k0_pay4 x t) a, k0_pay22 (k0_pay4 x t) a, k0_pay25 (k0_pay24 (k0_pay4 x t)) a, k0_pay28 (k0_pay4 x t) a,
    k0_pay32 (k0_pay4 x t) a, k0_pay36 a (k0_pay35 (k0_pay4 x t)),
    k0_pay10 (k0_pay5 x t w) (k0_pay6 x t) a, k0_pay14 a (k0_pay13 (k0_pay4 x t) (k0_pay5 x t w)),
    k0_pay17 (k0_pay4 x t) (k0_pay5 x t w) a, k0_pay20 (k0_pay5 x t w) (k0_pay18 (k0_pay4 x t)) a,
    k0_pay23 (k0_pay4 x t) (k0_pay5 x t w) a, k0_pay26 (k0_pay5 x t w) (k0_pay24 (k0_pay4 x t)) a,
    k0_pay30 a (k0_pay29 (k0_pay4 x t) (k0_pay5 x t w)), k0_pay33 (k0_pay4 x t) (k0_pay5 x t w) a,
    k0_pay37 (k0_pay5 x t w) (k0_pay34 (k0_pay4 x t)) a, k0_pay38 (k0_pay5 x t w) a, k0_pay39 (k0_pay3 t w) a] :
    Fin 20 → F .f32) k

end Step

variable {x : Vec Ideal S4096x100 .f32} {t : Vec Ideal S4096 .i32} {w : Vec Ideal S100 .f32}
  {X : Fin 4096 → Fin 100 → ℝ} {W : Fin 100 → ℝ}

/-- A choice on equal words is a choice on the equation. -/
theorem select_eq {α : Type} (a b : BitVec 32) (p q : α) :
    Scalar.select (IntOp.cmpi .eq a b) p q = if a = b then p else q := by
  by_cases h : a = b
  · simp [Scalar.select, IntOp.cmpi, h]
  · simp [Scalar.select, IntOp.cmpi, beq_eq_false_iff_ne.2 h, h]

/-- The row weight the kernel takes, -/
theorem pay3_chosen (r : Fin 4096) (z : Fin 1) :
    k0_pay3 t w (ix2 r z) = chosen (fun r => t (ix1 r)) (fun c => w (ix1 c)) r := by
  unfold k0_pay3 k0_pay1
  dsimp only
  pointwise
  simp only [select_eq]
  rfl

/-- a real where the target's class weight is one. -/
theorem pay3_at (hw : ∀ r c, t (ix1 r) = BitVec.ofNat 32 c.val → w (ix1 c) = (W c : EReal)) (r : Fin 4096) (z : Fin 1) :
    k0_pay3 t w (ix2 r z) = (rowWeight (fun r => t (ix1 r)) W r : EReal) :=
  (pay3_chosen r z).trans (chosen_real _ _ r (hw r))

/-- The signed logit the kernel takes. -/
theorem pay2_at (hx : ∀ r c, x (ix2 r c) = (X r c : EReal)) (r : Fin 4096) (c : Fin 100) :
    k0_pay2 x t (ix2 r c) = (score X (fun r => t (ix1 r)) (r, c) : EReal) := by
  unfold k0_pay2 k0_pay1
  dsimp only
  pointwise
  simp only [select_eq, hx, score, coe_ite, EReal.coe_neg, zero_sub]

/-- The padded array holds the signed logits in its first hundred lanes, -/
theorem pay4_left (hx : ∀ r c, x (ix2 r c) = (X r c : EReal)) (r : Fin 4096) (c : Fin 100) :
    k0_pay4 x t (ix2 r (Fin.castAdd 28 c)) = (score X (fun r => t (ix1 r)) (r, c) : EReal) := by
  rw [← pay2_at hx]
  unfold k0_pay4
  pointwise
  exact dif_pos c.isLt

/-- and a large number in the spare ones. -/
theorem pay4_right (r : Fin 4096) (c : Fin 28) :
    k0_pay4 x t (ix2 r (Fin.natAdd 100 c)) = ((1000000000 : ℝ) : EReal) := by
  unfold k0_pay4
  pointwise
  rw [dif_neg (by simp)]
  exact word_pad

/-- The cross-entropy's formula at a real score. -/
theorem bce_coe (y : ℝ) :
    max (y : EReal) 0 + Ideal.log1p (Ideal.exp (0 - max (y : EReal) (-(y : EReal)))) = (bce y : EReal) := by
  have h : (0 : ℝ) < 1 + Real.exp (-|y|) := by positivity
  have m : ∀ a b : ℝ, max (a : EReal) b = ((max a b : ℝ) : EReal) :=
    fun a b => (EReal.coe_strictMono.monotone.map_max (a := a) (b := b)).symm
  rw [← EReal.coe_neg, ← EReal.coe_zero, m, m, ← EReal.coe_sub, Ideal.exp_coe]
  unfold Ideal.log1p
  rw [← EReal.coe_one, ← EReal.coe_add, zero_sub, ← abs_eq_max_neg, Ideal.log_coe, if_neg (not_le.2 h), ← EReal.coe_add]
  rfl

/-- The second padded array holds the weighted cross-entropies in its first hundred lanes, -/
theorem pay5_left (hx : ∀ r c, x (ix2 r c) = (X r c : EReal)) (hw : ∀ r c, t (ix1 r) = BitVec.ofNat 32 c.val → w (ix1 c) = (W c : EReal)) (r : Fin 4096)
    (c : Fin 100) :
    k0_pay5 x t w (ix2 r (Fin.castAdd 28 c)) = (weighted X (fun r => t (ix1 r)) W (r, c) : EReal) := by
  unfold k0_pay5
  pointwise
  refine (dif_pos c.isLt).trans ?_
  simp only [Fin.val_castAdd, Fin.eta, pay2_at hx, pay3_at hw, Ideal.absf_def, bce_coe]
  rw [← EReal.coe_mul]
  rfl

/-- and zeros in the spare ones. -/
theorem pay5_right (r : Fin 4096) (c : Fin 28) : k0_pay5 x t w (ix2 r (Fin.natAdd 100 c)) = ((0 : ℝ) : EReal) := by
  unfold k0_pay5
  pointwise
  rw [dif_neg (by simp)]
  rfl

/-- The padded lanes of a real array summed: the hundred lanes' sum and the spare ones'. -/
theorem lanes_sum (f : Fin 4096 → Fin 128 → EReal) (g : Fin 4096 × Fin 100 → ℝ) (z : ℝ)
    (hl : ∀ r c, f r (Fin.castAdd 28 c) = (g (r, c) : EReal)) (hr : ∀ r (c : Fin 28), f r (Fin.natAdd 100 c) = (z : EReal)) :
    ∑ l : Fin 128, ∑ r, f r l = ((∑ p, g p + 4096 * 28 * z : ℝ) : EReal) := by
  have e : ∀ h : Fin (100 + 28) → EReal, ∑ l : Fin 128, h l = ∑ l, h l := fun _ => rfl
  rw [e, Fin.sum_univ_add]
  simp only [hl, hr, ← coe_sum]
  rw [← EReal.coe_add]
  congr 2
  · rw [Fintype.sum_prod_type_right]
  · simp
    ring

/-- Counting the lanes at or above a threshold. -/
theorem count_lanes (hx : ∀ r c, x (ix2 r c) = (X r c : EReal)) (k : Fin 9) :
    (∑ l : Fin 128, ∑ r : Fin 4096, if (threshold k : EReal) ≤ k0_pay4 x t (ix2 r l) then (1 : EReal) else 0)
      = (tally X (fun r => t (ix1 r)) W ⟨k.val, by omega⟩ : EReal) := by
  rw [lanes_sum _ (fun p => if edge k.succ.castSucc ≤ logistic (score X (fun r => t (ix1 r)) p) then 1 else 0) 1
    (fun r c => ?_) fun r c => ?_]
  · simp only [tally, k.isLt, dif_pos, above]
    congr 2
    norm_num
  · simp only [pay4_left hx, EReal.coe_le_coe_iff, threshold_le_iff, coe_ite, EReal.coe_one, EReal.coe_zero]
  · rw [pay4_right, if_pos (EReal.coe_le_coe_iff.2 (threshold_le_pad k)), EReal.coe_one]

/-- Summing the weighted cross-entropies of the lanes at or above a threshold. -/
theorem mass_lanes (hx : ∀ r c, x (ix2 r c) = (X r c : EReal)) (hw : ∀ r c, t (ix1 r) = BitVec.ofNat 32 c.val → w (ix1 c) = (W c : EReal)) (k : Fin 9) :
    (∑ l : Fin 128, ∑ r : Fin 4096,
        if (threshold k : EReal) ≤ k0_pay4 x t (ix2 r l) then (k0_pay5 x t w (ix2 r l) : EReal) else 0)
      = (tally X (fun r => t (ix1 r)) W ⟨k.val + 9, by omega⟩ : EReal) := by
  rw [lanes_sum _ (fun p => if edge k.succ.castSucc ≤ logistic (score X (fun r => t (ix1 r)) p) then
      weighted X (fun r => t (ix1 r)) W p else 0) 0 (fun r c => ?_) fun r c => ?_]
  · have h1 : ¬ k.val + 9 < 9 := by omega
    have h2 : k.val + 9 < 18 := by omega
    simp only [tally, h1, h2, dif_pos, dif_neg, not_false_eq_true, above, mul_zero, add_zero]
    rfl
  · simp only [pay4_left hx, pay5_left hx hw, EReal.coe_le_coe_iff, threshold_le_iff, coe_ite, EReal.coe_zero]
  · rw [pay5_right, EReal.coe_zero, ite_self]

/-- Summing all the weighted cross-entropies. -/
theorem total_lanes (hx : ∀ r c, x (ix2 r c) = (X r c : EReal)) (hw : ∀ r c, t (ix1 r) = BitVec.ofNat 32 c.val → w (ix1 c) = (W c : EReal)) :
    (∑ l : Fin 128, ∑ r : Fin 4096, (k0_pay5 x t w (ix2 r l) : EReal))
      = (tally X (fun r => t (ix1 r)) W 18 : EReal) := by
  rw [lanes_sum _ (fun p => weighted X (fun r => t (ix1 r)) W p) 0 (pay5_left hx hw) pay5_right]
  simp [tally]

/-- Summing the row weights. -/
theorem weight_rows (hw : ∀ r c, t (ix1 r) = BitVec.ofNat 32 c.val → w (ix1 c) = (W c : EReal)) :
    (∑ r : Fin 4096, ∑ _z : Fin 1, (k0_pay3 t w (ix2 r 0) : EReal)) = (tally X (fun r => t (ix1 r)) W 19 : EReal) := by
  simp only [pay3_at hw, ← coe_sum]
  simp [tally]

set_option maxHeartbeats 1000000 in
/-- THE STEP: in each cell the kernel adds the block's tally. -/
theorem step_eq (hx : ∀ r c, x (ix2 r c) = (X r c : EReal)) (hw : ∀ r c, t (ix1 r) = BitVec.ofNat 32 c.val → w (ix1 c) = (W c : EReal)) (a : Ideal .f32)
    (k : Fin 20) : step (F := Ideal) x t w k a = (a + (tally X (fun r => t (ix1 r)) W k : EReal) : EReal) := by
  have c4 := count_lanes (W := W) (t := t) hx 4
  have m4 := mass_lanes (t := t) hx hw 4
  simp only [threshold_middle, EReal.coe_zero] at c4 m4
  fin_cases k <;>
    simp only [Fin.zero_eta, Fin.mk_one, Fin.reduceFinMk, step, Matrix.cons_val, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39] <;>
    pointwise <;>
    try simp only [named_1, named_2, named_3, named_4, named_6, named_7, named_8, named_9]
  exacts [congrArg (a + ·) (count_lanes hx 0), congrArg (a + ·) (count_lanes hx 1), congrArg (a + ·) (count_lanes hx 2),
    congrArg (a + ·) (count_lanes hx 3), congrArg (a + ·) c4, congrArg (a + ·) (count_lanes hx 5),
    congrArg (a + ·) (count_lanes hx 6), congrArg (a + ·) (count_lanes hx 7), congrArg (a + ·) (count_lanes hx 8),
    congrArg (a + ·) (mass_lanes hx hw 0), congrArg (a + ·) (mass_lanes hx hw 1), congrArg (a + ·) (mass_lanes hx hw 2),
    congrArg (a + ·) (mass_lanes hx hw 3), congrArg (a + ·) m4, congrArg (a + ·) (mass_lanes hx hw 5),
    congrArg (a + ·) (mass_lanes hx hw 6), congrArg (a + ·) (mass_lanes hx hw 7), congrArg (a + ·) (mass_lanes hx hw 8),
    congrArg (a + ·) (total_lanes hx hw), congrArg (a + ·) (weight_rows hw)]

/-- The last cell's step, whatever the class weights are: it adds the rows' weights. -/
theorem step_weights (a : Ideal .f32) :
    step (F := Ideal) x t w 19 a = (a + ∑ r, chosen (fun r => t (ix1 r)) (fun c => w (ix1 c)) r : EReal) := by
  simp only [step, Matrix.cons_val, k0_pay39]
  pointwise
  simp only [pay3_chosen, Finset.univ_unique, Finset.sum_singleton]

end Cert.Ghm
-- ==== Proof.Cells.lean ====
/-
  WHAT ONE GRID POINT LEAVES: the accumulator's twenty cells after the first and after the second block of a half, and the
  output block the second one writes.
-/
module

public import proofs.«01_k».proof.Proof.Payload
public import proofs.«01_k».proof.Proof.Gen.KernelIdeal.Frame
public import Idealize.ShloMosaic.Lib.CellWrites
public import Idealize.ShloMosaic.Lib.WritesUnit

@[expose] public section

set_option maxRecDepth 65536

noncomputable section

namespace Cert.Ghm

open Idealize.ShloMosaic Cert.KernelIdeal Cert.KernelIdeal.Gen

variable {F : FTy → Type} [FloatOps F] [Named F]

/-- A store of one cell of a `[1, 1, n]` block, read back: the cell it stores, and elsewhere what was there. -/
theorem read_cell3 {rs : RefSig} {κ : Kind} {sp : Space} {e : EltTy} {Val : EltTy → Type} {n : ℕ}
    (v : View rs κ sp (⟨3, ![1, 1, n]⟩ : Shape) e) (f : v.ty.Contents Val) {k : ℕ}
    (inb : ∀ a, (![0, 0, k] : Fin 3 → ℕ) a + (![1, 1, 1] : Fin 3 → ℕ) a ≤ (⟨3, ![1, 1, n]⟩ : Shape).size a)
    (p : Val e) (L : List (View.Piece Val (⟨3, ![1, 1, n]⟩ : Shape) e)) (y : (⟨3, ![1, 1, n]⟩ : Shape).Idx) :
    v.read Val (v.writes Val f ((⟨Rect.unit ![0, 0, k] ![1, 1, 1] inb, fun _ => p⟩ : View.Piece Val _ e) :: L)) y
      = if (y 2).val = k then p else v.read Val (v.writes Val f L) y := by
  have h0 : (y 0).val = 0 := Nat.lt_one_iff.1 (y 0).isLt
  have h1 : (y 1).val = 0 := Nat.lt_one_iff.1 (y 1).isLt
  split_ifs with h
  · exact View.read_writes_cons_unit_of_mem v f inb (fun _ => p) L y (fun a => ⟨0, by fin_cases a <;> exact Nat.one_pos⟩)
      rfl (fun a => by fin_cases a <;> simp [h0, h1, h])
  · exact View.read_writes_cons_unit_of_not_mem v f inb (fun _ => p) L y rfl 2 (by simp; omega)

/-- A block's whole load is the block. -/
theorem load_logits (x : Vec F S4096x100 .f32) (inb) : View.ld x (Rect.unit ![0, 0] ![4096, 100] inb) = x :=
  View.ld_unit_zero (by funext a; fin_cases a <;> rfl) inb x

theorem load_targets (t : Vec F S4096 .i32) (inb) : View.ld t (Rect.unit ![0] ![4096] inb) = t :=
  View.ld_unit_zero (by funext a; fin_cases a; rfl) inb t

theorem load_weights (w : Vec F S100 .f32) (inb) : View.ld w (Rect.unit ![0] ![100] inb) = w :=
  View.ld_unit_zero (by funext a; fin_cases a; rfl) inb w

/-- A cell's load is the cell. -/
theorem load_cell (xs : Vec F S20 .f32) (k : ℕ) (inb) (z) :
    View.ld xs (Rect.unit ![k] ![1] inb) z = xs (ix1 ⟨k, by have := inb 0; exact this⟩) := by
  unfold View.ld
  congr 1
  funext a
  fin_cases a
  apply Fin.ext
  have : (z 0).val = 0 := Nat.lt_one_iff.1 (z 0).isLt
  simp [Rect.unit, Rect.emb, this]

section Points

variable (c : Dev nD) (i : grid0.Coords) (arg2 : Memref sig .tc .vmem S4096x100 .f32) (harg2 : arg2.IsWhole)
  (arg3 : Memref sig .tc .vmem S4096 .i32) (harg3 : arg3.IsWhole) (arg4 : Memref sig .tc .vmem S100 .f32)
  (harg4 : arg4.IsWhole) (arg5 : Memref sig .tc .smem S1x1x20 .f32) (harg5 : arg5.IsWhole)
  (arg6 : Memref sig .tc .smem S20 .f32) (harg6 : arg6.IsWhole)
  (x : Vec F S4096x100 .f32) (t : Vec F S4096 .i32) (w : Vec F S100 .f32)

/-- After a half's first block every cell holds one step from zero. -/
theorem first_cells (hc0 : cond0_0 i) (hc1 : ¬ cond0_1 i) (k : Fin 20) :
    sout0_A_0 c i arg2 harg2 arg3 harg3 arg4 harg4 arg5 harg5 arg6 harg6 hc0 hc1 x t w (ix1 k)
      = step x t w k (FloatOps.ofBits .f32 0x00000000#32) := by
  unfold sout0_A_0 kernelRun0_A
  dsimp only
  sl_unfold_words
  simp only [View.readAt_eq_ld, harg2.read_unread, harg3.read_unread, harg4.read_unread, harg6.read_unread,
    load_logits, load_targets, load_weights]
  fin_cases k
  all_goals
    simp only [Fin.zero_eta, Fin.mk_one, Fin.reduceFinMk, View.read_writes_cons_cell, ix1_0, Matrix.cons_val_zero, Fin.coe_ofNat_eq_mod]
    simp (decide := true) only [if_true, if_false]
    rfl

/-- After its second block every cell holds one step from what it held. -/
theorem second_cells (hc0 : ¬ cond0_0 i) (hc1 : cond0_1 i) (xs : Vec F S20 .f32) (k : Fin 20) :
    sout0_B_0 c i arg2 harg2 arg3 harg3 arg4 harg4 arg5 harg5 arg6 harg6 hc0 hc1 x t w xs (ix1 k)
      = step x t w k (xs (ix1 k)) := by
  unfold sout0_B_0 kernelRun0_B
  dsimp only
  sl_unfold_words
  simp only [View.readAt_eq_ld, harg2.read_unread, harg3.read_unread, harg4.read_unread, harg6.read_unread,
    load_logits, load_targets, load_weights]
  fin_cases k
  all_goals
    simp only [Fin.zero_eta, Fin.mk_one, Fin.reduceFinMk, View.read_writes_cons_cell, ix1_0, Matrix.cons_val_zero, Fin.coe_ofNat_eq_mod]
    simp (decide := true) only [if_true, if_false]
    rw [load_cell]
    rfl

/-- The output block then holds the same. -/
theorem second_out (hc0 : ¬ cond0_0 i) (hc1 : cond0_1 i) (xs : Vec F S20 .f32) (k : Fin 20) :
    out0_B_3 c i arg2 harg2 arg3 harg3 arg4 harg4 arg5 harg5 arg6 harg6 hc0 hc1 x t w xs (ix3 0 0 k)
      = step x t w k (xs (ix1 k)) := by
  unfold out0_B_3 kernelRun0_B
  dsimp only
  sl_unfold_words
  simp only [View.readAt_eq_ld, harg2.read_unread, harg3.read_unread, harg4.read_unread, harg6.read_unread,
    load_logits, load_targets, load_weights]
  fin_cases k
  all_goals
    simp only [Fin.zero_eta, Fin.mk_one, Fin.reduceFinMk, read_cell3, ix3_2, Fin.coe_ofNat_eq_mod]
    simp (decide := true) only [if_true, if_false]
    rw [load_cell]
    rfl

end Points

end Cert.Ghm
-- ==== Proof.Parts.lean ====
/-
  WHAT THE LAUNCH LEAVES: row `o` of the `[2, 1, 20]` result holds the tallies of the half's two row blocks, added.
-/
module

public import proofs.«01_k».proof.Proof.Cells
public import Idealize.ShloMosaic.Lib.Pipeline.Value
public import Idealize.ShloMosaic.Lib.Pipeline.ValueKit

@[expose] public section

noncomputable section

namespace Cert.Ghm

open Idealize.ShloMosaic Idealize.ShloMosaic.TcCoe Idealize.SL.Sem Cert.KernelIdeal Cert.KernelIdeal.Gen

/-- The rows dealt to four blocks of 4096: row `r` of block `b` is row `4096 b + r`. -/
def rowOf : Fin 4 × Fin 4096 ≃ Fin 16384 := finProdFinEquiv

theorem rowOf_val (b : Fin 4) (r : Fin 4096) : (rowOf (b, r)).val = r.val + 4096 * b.val := rfl

section Reads

variable {F : FTy → Type} [FloatOps F] [Named F] (m : (ℓ : Loc nD τ sig) → Buf (Elt F) ℓ) (c : Dev nD)

/-- Which block each window is on at a point. -/
theorem logits_index : ∀ t : Fin cfg0.N, win0_0.index t 0 = t.val ∧ win0_0.index t 1 = 0 := by decide +kernel

theorem targets_index : ∀ t : Fin cfg0.N, win0_1.index t 0 = t.val := by decide +kernel

theorem weights_index : ∀ t : Fin cfg0.N, win0_2.index t 0 = 0 := by decide +kernel

theorem parts_index : ∀ t : Fin cfg0.N, win0_3.index t 0 = t.val / 2 ∧ win0_3.index t 1 = 0 ∧ win0_3.index t 2 = 0 := by
  decide +kernel

/-- The block of logits a point reads. -/
theorem block_logits (t : Fin cfg0.N) (b : Fin 4) (hb : b.val = t.val) (r : Fin 4096) (l : Fin 100) :
    (iblk m c 0 t : Vec F S4096x100 .f32) (ix2 r l)
      = (m ((c : Thread nD τ).loc main_arg0) : Vec F S16384x100 .f32) (ix2 (rowOf (b, r)) l) := by
  unfold iblk
  blk_simp
  refine congrArg (m ((c : Thread nD τ).loc main_arg0)) (funext fun a => Fin.ext ?_)
  match a with
  | ⟨0, _⟩ => show win0_0.index t 0 * 4096 + 1 * r.val = r.val + 4096 * b.val; rw [(logits_index t).1]; omega
  | ⟨1, _⟩ => show win0_0.index t 1 * 100 + 1 * l.val = l.val; rw [(logits_index t).2]; omega

/-- The block of targets a point reads. -/
theorem block_targets (t : Fin cfg0.N) (b : Fin 4) (hb : b.val = t.val) (r : Fin 4096) :
    (iblk m c 1 t : Vec F S4096 .i32) (ix1 r)
      = (m ((c : Thread nD τ).loc main_arg1) : Vec F S16384 .i32) (ix1 (rowOf (b, r))) := by
  unfold iblk
  blk_simp
  refine congrArg (m ((c : Thread nD τ).loc main_arg1)) (funext fun a => Fin.ext ?_)
  match a with
  | ⟨0, _⟩ => show win0_1.index t 0 * 4096 + 1 * r.val = r.val + 4096 * b.val; rw [targets_index t]; omega

/-- Every point reads the class weights whole. -/
theorem block_weights (t : Fin cfg0.N) (l : Fin 100) :
    (iblk m c 2 t : Vec F S100 .f32) (ix1 l) = (m ((c : Thread nD τ).loc main_arg2) : Vec F S100 .f32) (ix1 l) := by
  unfold iblk
  blk_simp
  refine congrArg (m ((c : Thread nD τ).loc main_arg2)) (funext fun a => Fin.ext ?_)
  match a with
  | ⟨0, _⟩ => show win0_2.index t 0 * 100 + 1 * l.val = l.val; rw [weights_index t]; omega

end Reads

variable {m : (ℓ : Loc nD τ sig) → Buf (Elt Ideal) ℓ} {c : Dev nD}
  {X : Fin 16384 → Fin 100 → ℝ} {T : Fin 16384 → BitVec 32} {W : Fin 100 → ℝ}

/-- The memory holds the logits, the targets and the class weights as the launch's operands; of the class weights,
    those that a target names. -/
structure Holds (m : (ℓ : Loc nD τ sig) → Buf (Elt Ideal) ℓ) (c : Dev nD) (X : Fin 16384 → Fin 100 → ℝ)
    (T : Fin 16384 → BitVec 32) (W : Fin 100 → ℝ) : Prop where
  logits : ∀ r l, (m ((c : Thread nD τ).loc main_arg0) : Vec Ideal S16384x100 .f32) (ix2 r l) = (X r l : EReal)
  targets : ∀ r, (m ((c : Thread nD τ).loc main_arg1) : Vec Ideal S16384 .i32) (ix1 r) = T r
  weights : ∀ r l, T r = BitVec.ofNat 32 l.val →
    (m ((c : Thread nD τ).loc main_arg2) : Vec Ideal S100 .f32) (ix1 l) = (W l : EReal)

/-- What a block of rows adds to cell `k`. -/
def blockTally (X : Fin 16384 → Fin 100 → ℝ) (T : Fin 16384 → BitVec 32) (W : Fin 100 → ℝ) (b : Fin 4) (k : Fin 20) : ℝ :=
  tally (fun r => X (rowOf (b, r))) (fun r => T (rowOf (b, r))) W k

/-- A point's step on a real cell adds its block's tally. -/
theorem step_block (h : Holds m c X T W) (t : Fin cfg0.N) (b : Fin 4) (hb : b.val = t.val) (a : ℝ) (k : Fin 20) :
    step (F := Ideal) (iblk m c 0 t) (iblk m c 1 t) (iblk m c 2 t) k (a : EReal)
      = ((a + blockTally X T W b k : ℝ) : EReal) := by
  rw [step_eq (X := fun r => X (rowOf (b, r))) (W := W) (fun r l => (block_logits m c t b hb r l).trans (h.logits _ _))
    (fun r l hl => (block_weights m c t l).trans
      (h.weights (rowOf (b, r)) l ((h.targets _).symm.trans ((block_targets m c t b hb r).symm.trans hl)))), EReal.coe_add]
  unfold blockTally
  simp only [block_targets m c t b hb, h.targets]

/-- The launch's point for a block of rows. -/
def point (b : Fin 4) : Fin cfg0.N := ⟨b.val, lt_of_lt_of_eq b.isLt (show 4 = cfg0.N from N_0.symm)⟩

/-- What two points in turn leave in a cell that starts at zero. -/
def ends (m : (ℓ : Loc nD τ sig) → Buf (Elt Ideal) ℓ) (c : Dev nD) (t u : Fin cfg0.N) (k : Fin 20) : EReal :=
  step (F := Ideal) (iblk m c 0 u) (iblk m c 1 u) (iblk m c 2 u) k
    (step (F := Ideal) (iblk m c 0 t) (iblk m c 1 t) (iblk m c 2 t) k (0 : EReal))

/-- The result array: in row `o`, what the points of blocks `2 o` and `2 o + 1` leave. -/
def parts (m : (ℓ : Loc nD τ sig) → Buf (Elt Ideal) ℓ) (c : Dev nD) : Vec Ideal S2x1x20 .f32 :=
  fun i => ends m c (point ⟨2 * (i 0).val, by have : (i 0).val < 2 := (i 0).isLt; omega⟩)
    (point ⟨2 * (i 0).val + 1, by have : (i 0).val < 2 := (i 0).isLt; omega⟩) (i 2)

theorem parts_at (o : Fin 2) (k : Fin 20) :
    parts m c (ix3 o 0 k) = ends m c (point ⟨2 * o.val, by omega⟩) (point ⟨2 * o.val + 1, by omega⟩) k := rfl

/-- The launch leaves the result array. -/
theorem final : (dats m 0 c).arrAt 3 cfg0.N = parts m c := by
  refine (dats m 0 c).arrAt_eq_of_covers 3 _ (by decide +kernel) fun t hf y => ?_
  have hN : t.val < 4 := lt_of_lt_of_eq t.isLt (show cfg0.N = 4 from N_0)
  have ht : t.val % 2 = 1 := (flush0_3 t).mp hf
  obtain ⟨k, hy⟩ : ∃ k : Fin 20, y = ix3 (0 : Fin 1) (0 : Fin 1) k := by
    refine ⟨y 2, funext fun a => ?_⟩
    match a with
    | ⟨0, _⟩ => exact Subsingleton.elim (α := Fin 1) _ _
    | ⟨1, _⟩ => exact Subsingleton.elim (α := Fin 1) _ _
    | ⟨2, _⟩ => rfl
  have he : (win0_3.blk t).view.emb y = (ix3 (⟨t.val / 2, by omega⟩ : Fin 2) (0 : Fin 1) k : S2x1x20.Idx) := by
    subst hy
    funext a
    apply Fin.ext
    match a with
    | ⟨0, _⟩ => show win0_3.index t 0 * 1 + 1 * 0 = t.val / 2; rw [(parts_index t).1]; omega
    | ⟨1, _⟩ => show win0_3.index t 1 * 1 + 1 * 0 = 0; rw [(parts_index t).2.1]
    | ⟨2, _⟩ => show win0_3.index t 2 * 20 + 1 * k.val = k.val; rw [(parts_index t).2.2]; omega
  blk_simp
  refine Eq.trans ?_ ((congrArg (parts m c) he).trans (parts_at _ k)).symm
  rw [after0_3, outsAt0_B m c t (by omega) ht, hy]
  dsimp only
  rw [second_out]
  have hp : t.val - 1 < cfg0.N := lt_of_le_of_lt (Nat.sub_le _ _) t.isLt
  have e := congrArg Prod.snd (outsAt0_A m c ⟨t.val - 1, hp⟩ (by show (t.val - 1) % 2 = 0; omega)
    (by show ¬ (t.val - 1) % 2 = 1; omega))
  dsimp only at e
  rw [e]
  rw [first_cells, word_zero]
  exact congrArg₂ (fun a b => ends m c a b k) (Fin.ext (show t.val - 1 = 2 * (t.val / 2) by omega))
    (Fin.ext (show t.val = 2 * (t.val / 2) + 1 by omega))

/-- The two rows of the result array add up to the tally of all rows. -/
theorem parts_sum (h : Holds m c X T W) (k : Fin 20) :
    parts m c (ix3 0 0 k) + parts m c (ix3 1 0 k) = (tally X T W k : EReal) := by
  have e : ∀ b d : Fin 4, ends m c (point b) (point d) k = ((blockTally X T W b k + blockTally X T W d k : ℝ) : EReal) :=
    fun b d => (congrArg (step (F := Ideal) (iblk m c 0 (point d)) (iblk m c 1 (point d)) (iblk m c 2 (point d)) k)
      (step_block h (point b) b rfl 0 k)).trans ((step_block h (point d) d rfl _ k).trans (by rw [zero_add]))
  rw [parts_at, parts_at, e, e, tally_split X T W rowOf, Fin.sum_univ_four, ← EReal.coe_add]
  exact congrArg Real.toEReal (add_assoc (blockTally X T W 0 k + blockTally X T W 1 k) (blockTally X T W 2 k)
    (blockTally X T W 3 k)).symm

/-- A row whose target names an infinite class weight. -/
structure Infinite (m : (ℓ : Loc nD τ sig) → Buf (Elt Ideal) ℓ) (c : Dev nD) (T : Fin 16384 → BitVec 32) (r : Fin 16384)
    (l : Fin 100) : Prop where
  targets : ∀ r, (m ((c : Thread nD τ).loc main_arg1) : Vec Ideal S16384 .i32) (ix1 r) = T r
  named : T r = BitVec.ofNat 32 l.val
  weight : Boundless ((m ((c : Thread nD τ).loc main_arg2) : Vec Ideal S100 .f32) (ix1 l))

/-- The point of such a row's block adds an infinity to the weights' cell. -/
theorem step_boundless {b : Fin 4} {q : Fin 4096} {l : Fin 100} (h : Infinite m c T (rowOf (b, q)) l) (a : EReal) :
    Boundless (step (F := Ideal) (iblk m c 0 (point b)) (iblk m c 1 (point b)) (iblk m c 2 (point b)) 19 a) := by
  have ht := (block_targets m c (point b) b rfl q).trans ((h.targets _).trans h.named)
  have hw := (block_weights m c (point b) l).symm ▸ h.weight
  rw [step_weights]
  exact Boundless.add_left (Boundless.sum q (Boundless.chosen (c := l) ht hw)) a

theorem ends_boundless {b : Fin 4} {q : Fin 4096} {l : Fin 100} (h : Infinite m c T (rowOf (b, q)) l) (d : Fin cfg0.N) :
    Boundless (ends m c (point b) d 19) ∧ Boundless (ends m c d (point b) 19) := by
  refine ⟨?_, step_boundless h _⟩
  unfold ends
  rw [step_weights]
  exact Boundless.add_right (step_boundless h _) _

/-- With such a row the two rows of the result array add up to an infinity in the weights' cell. -/
theorem parts_boundless {r : Fin 16384} {l : Fin 100} (h : Infinite m c T r l) :
    Boundless (parts m c (ix3 0 0 19) + parts m c (ix3 1 0 19)) := by
  obtain ⟨⟨b, q⟩, rfl⟩ := rowOf.surjective r
  have e := ends_boundless h
  rw [parts_at, parts_at]
  clear h
  have hb : b = 0 ∨ b = 1 ∨ b = 2 ∨ b = 3 := by omega
  rcases hb with rfl | rfl | rfl | rfl
  · exact Boundless.add_right (e _).1 _
  · exact Boundless.add_right (e _).2 _
  · exact Boundless.add_left (e _).1 _
  · exact Boundless.add_left (e _).2 _

end Cert.Ghm
-- ==== Proof.Tail.lean ====
/-
  WHAT THE KERNEL'S LAST LINES MAKE of the launch's result array: the two rows are added, neighbouring cells are
  subtracted to get each bin's count and mass, and the loss is put together from the ten bins. First the lines as one
  term of the result array, then that term over the reals.
-/
module

public import proofs.«01_k».proof.Proof.Parts
public import Idealize.ShloMosaic.Lib.Claim
public import Idealize.ShloMosaic.Lib.StableHlo.Run
public import Idealize.ShloMosaic.Lib.StableHlo.RunRead

@[expose] public section

set_option maxRecDepth 65536

noncomputable section

namespace Cert.Ghm

open Idealize.ShloMosaic Idealize.ShloMosaic.TcCoe Idealize.SL.Sem Cert.KernelIdeal Cert.KernelIdeal.Gen

section Lines

variable {F : FTy → Type} [FloatOps F]

/-- One number, nine numbers and one number in a row. -/
def join (x : Vec F S1 .f32) (a : Vec F S9 .f32) (z : Vec F S1 .f32) : Vec F S11 .f32 :=
  concatenate S11 0 [⟨S1, x⟩, ⟨S9, a⟩, ⟨S1, z⟩] concatenates_S1_S9_S1_S11_d0

/-- The result array's two rows added. -/
def sums (G : Vec F S2x1x20 .f32) : Vec F S20 .f32 :=
  addf (shapeCast S20 (extractStridedSlice S1x1x20 ![0, 0, 0] G slices_S2x1x20_S1x1x20_0_0_0) shapeCasts_S1x1x20_S20)
    (shapeCast S20 (extractStridedSlice S1x1x20 ![1, 0, 0] G slices_S2x1x20_S1x1x20_1_0_0) shapeCasts_S1x1x20_S20)

/-- How many entries lie at or above each edge. -/
def countsAbove (s : Vec F S20 .f32) : Vec F S11 .f32 :=
  join (broadcastInDim S1 ![] bcast_S_S1 (constant S_ .f32 0x49C80000#32))
    (subf (extractStridedSlice S9 ![0] s slices_S20_S9_0) (broadcastInDim S9 ![] bcast_S_S9 (constant S_ .f32 0x48E00000#32)))
    (broadcastInDim S1 ![] bcast_S_S1 (constant S_ .f32 0x00000000#32))

/-- The weighted loss of the entries at or above each edge. -/
def massesAbove (s : Vec F S20 .f32) : Vec F S11 .f32 :=
  join (extractStridedSlice S1 ![18] s slices_S20_S1_18) (extractStridedSlice S9 ![9] s slices_S20_S9_9)
    (broadcastInDim S1 ![] bcast_S_S1 (constant S_ .f32 0x00000000#32))

/-- Each cell less the next. -/
def drops (v : Vec F S11 .f32) : Vec F S10 .f32 :=
  subf (extractStridedSlice S10 ![0] v slices_S11_S10_0) (extractStridedSlice S10 ![1] v slices_S11_S10_1)

/-- Which bins hold an entry. -/
def holdsAny (n : Vec F S10 .f32) : Vec F S10 .i1 :=
  cmpf .ogt n (broadcastInDim S10 ![] bcast_S_S10 (constant S_ .f32 0x00000000#32))

/-- How many bins hold an entry. -/
def filledBins (n : Vec F S10 .f32) : Vec F S_ .f32 :=
  Host.reduceAdd (uitofp .f32 (holdsAny n)) (constant S_ .f32 0x00000000#32) reducesTo_S10_S_d0 h_S_

/-- The bins' masses, each over its count, added up. -/
def binTotal (n q : Vec F S10 .f32) : Vec F S_ .f32 :=
  Host.reduceAdd
    (Host.divf (select (holdsAny n) q (broadcastInDim S10 ![] bcast_S_S10 (constant S_ .f32 0x00000000#32)))
      (maximumf n (broadcastInDim S10 ![] bcast_S_S10 (constant S_ .f32 0x3F800000#32))))
    (constant S_ .f32 0x00000000#32) reducesTo_S10_S_d0 h_S_

/-- The numerator from the number of filled bins and the bins' total. -/
def scaled (n b : Vec F S_ .f32) : Vec F S_ .f32 :=
  select (cmpf .ogt n (constant S_ .f32 0x00000000#32))
    (mulf (Host.divf (constant S_ .f32 0x49C80000#32) (maximumf n (constant S_ .f32 0x3F800000#32))) b) b

/-- The denominator: the row weights' sum, once per class. -/
def weightTotal (s : Vec F S20 .f32) : Vec F S_ .f32 :=
  mulf (shapeCast S_ (extractStridedSlice S1 ![19] s slices_S20_S1_19) shapeCasts_S1_S_) (constant S_ .f32 0x42C80000#32)

/-- The last lines of the kernel. -/
def loss (s : Vec F S20 .f32) : Vec F S_ .f32 :=
  Host.divf (scaled (filledBins (drops (countsAbove s))) (binTotal (drops (countsAbove s)) (drops (massesAbove s))))
    (weightTotal s)

variable (V : Valuation τ sig (Elt F))

theorem counts_result (hx hy) :
    (StableHlo.nary (τ := τ) ![main_v6, main_v9, main_v10] main_v11 (fun u => (concatenate S11 0
      [⟨S1, (u 0 : (⟨S1, .f32⟩ : BufTy).Contents (Elt F))⟩, ⟨S9, (u 1 : (⟨S9, .f32⟩ : BufTy).Contents (Elt F))⟩,
       ⟨S1, (u 2 : (⟨S1, .f32⟩ : BufTy).Contents (Elt F))⟩] concatenates_S1_S9_S1_S11_d0
        : (⟨S11, .f32⟩ : BufTy).Contents (Elt F))) hx hy).result V (no_index (Proc.devRef .tc main_v11))
      = join (V (Proc.devRef .tc main_v6)) (V (Proc.devRef .tc main_v9)) (V (Proc.devRef .tc main_v10)) :=
  StableHlo.nary_result _ _ _ _ _ _

theorem masses_result (hx hy) :
    (StableHlo.nary (τ := τ) ![main_v12, main_v13, main_v14] main_v15 (fun u => (concatenate S11 0
      [⟨S1, (u 0 : (⟨S1, .f32⟩ : BufTy).Contents (Elt F))⟩, ⟨S9, (u 1 : (⟨S9, .f32⟩ : BufTy).Contents (Elt F))⟩,
       ⟨S1, (u 2 : (⟨S1, .f32⟩ : BufTy).Contents (Elt F))⟩] concatenates_S1_S9_S1_S11_d0
        : (⟨S11, .f32⟩ : BufTy).Contents (Elt F))) hx hy).result V (no_index (Proc.devRef .tc main_v15))
      = join (V (Proc.devRef .tc main_v12)) (V (Proc.devRef .tc main_v13)) (V (Proc.devRef .tc main_v14)) :=
  StableHlo.nary_result _ _ _ _ _ _

end Lines

/-- The kernel's result is the last lines' term of the launch's result array. -/
theorem result_eq (m : (ℓ : Loc nD τ sig) → Buf (Elt Ideal) ℓ) (c : Dev nD) :
    Pipeline.afterTail₀ cfgs (dats m) 0 (V0 m) [hostOps1, hostOps1_1, hostOps1_2, hostOps1_3, hostOps1_4] c main_v41
      = loss (sums (F := Ideal) ((dats m 0 c).arrAt 3 cfg0.N)) := by
  unfold Pipeline.afterTail₀
  generalize hW : Pipeline.withArrays _ _ _ _ = V
  have hG : V (Proc.devRef .tc main_v0) = (dats m 0 c).arrAt 3 cfg0.N := by
    rw [← hW]
    exact Pipeline.withArrays_arr _ winFacts0.arr_inj c _ (fun w => (dats m 0 c).arrAt w cfg0.N) (3 : Fin 4)
  clear hW
  simp only [List.flatten_cons, List.flatten_nil, hostOps1, hostOps1_1, hostOps1_2, hostOps1_3, hostOps1_4,
    List.append_nil, List.cons_append, List.nil_append]
  simp (disch := decide) only [StableHlo.readAfter, StableHlo.readUpto, StableHlo.nullary_result',
    StableHlo.unary_result', StableHlo.binary_result', StableHlo.ternary_result', StableHlo.reshape_result',
    counts_result, masses_result, hG]
  rfl

/-! ## Over the reals -/

theorem real_max (a b : ℝ) : max (a : EReal) b = ((max a b : ℝ) : EReal) :=
  (EReal.coe_strictMono.monotone.map_max (a := a) (b := b)).symm

theorem real_div (a : ℝ) {b : ℝ} (h : b ≠ 0) : Ideal.div (a : EReal) b = ((a / b : ℝ) : EReal) := by
  rw [Ideal.div_coe h, ← EReal.coe_mul, mul_one_div]

theorem real_pos (a : ℝ) : BitVec.ofBool (decide ((0 : EReal) < a)) = if 0 < a then 1#1 else 0#1 := by
  by_cases h : 0 < a
  · rw [if_pos h, decide_eq_true (EReal.coe_pos.2 h)]; rfl
  · rw [if_neg h, decide_eq_false (fun k => h (EReal.coe_pos.1 k))]; rfl

theorem join_at (x : Vec Ideal S1 .f32) (a : Vec Ideal S9 .f32) (z : Vec Ideal S1 .f32) (j : Fin 11) :
    join x a z (ix1 j) = if j.val < 1 then x (ix1 0) else if h : j.val - 1 < 9 then a (ix1 ⟨j.val - 1, h⟩) else z (ix1 0) := by
  unfold join
  pointwise
  split
  · exact congrArg (fun k => x (ix1 k)) (Subsingleton.elim (α := Fin 1) _ _)
  · split
    · rfl
    · exact congrArg (fun k => z (ix1 k)) (Subsingleton.elim (α := Fin 1) _ _)

theorem drops_at (v : Vec Ideal S11 .f32) (b : Fin 10) (p q : ℝ) (hp : v (ix1 b.castSucc) = (p : EReal))
    (hq : v (ix1 b.succ) = (q : EReal)) : drops v (ix1 b) = ((p - q : ℝ) : EReal) := by
  rw [EReal.coe_sub, ← hp, ← hq]
  unfold drops
  pointwise
  exact congrArg (v (ix1 b.castSucc) - ·) (congrArg (fun k => v (ix1 k)) (Fin.ext (Nat.add_comm 1 b.val)))

theorem sums_at (G : Vec Ideal S2x1x20 .f32) (k : Fin 20) : sums G (ix1 k) = G (ix3 0 0 k) + G (ix3 1 0 k) := by
  unfold sums
  pointwise

theorem holdsAny_at (n : Vec Ideal S10 .f32) (b : Fin 10) (r : ℝ) (h : n (ix1 b) = (r : EReal)) :
    holdsAny n (ix1 b) = if 0 < r then 1#1 else 0#1 := by
  unfold holdsAny
  pointwise
  simp only [h]
  exact real_pos r

theorem total_at (x : FVec Ideal S10 .f32) (f : Fin 10 → ℝ) (h : ∀ b, x (ix1 b) = (f b : EReal)) (i : S_.Idx) :
    (Host.reduceAdd x (constant S_ .f32 0x00000000#32) reducesTo_S10_S_d0 h_S_ i : Ideal .f32) = ((∑ b, f b : ℝ) : EReal) := by
  simp only [Host.reduceAdd, Ideal.hostReduceAdd_def]
  refine (Ideal.hostReduceAdd_total reducesTo_S10_S_d0 (fun b => b.elim0) x _ i).trans ?_
  rw [sum_idx1]
  simp only [h]
  rw [coe_sum]
  exact (congrArg (· + _) word_zero).trans (zero_add _)

section Values

variable (X : Fin 16384 → Fin 100 → ℝ) (T : Fin 16384 → BitVec 32) (W : Fin 100 → ℝ)
  {s : Vec Ideal S20 .f32} (hs : ∀ k, s (ix1 k) = (tally X T W k : EReal))

include hs

/-- The counts at or above the edges. -/
theorem countsAbove_at (j : Fin 11) : countsAbove s (ix1 j) = (above (score X T) (fun _ => 1) j : EReal) := by
  unfold countsAbove
  rw [join_at]
  split_ifs with h0 h1
  · obtain rfl : j = 0 := Fin.ext (by omega)
    rw [above_zero]
    refine word_total.trans (congrArg Real.toEReal ?_)
    simp
  · have e : (subf (F := Ideal) (extractStridedSlice S9 ![0] s slices_S20_S9_0)
        (broadcastInDim S9 ![] bcast_S_S9 (constant S_ .f32 0x48E00000#32)) : FVec Ideal S9 .f32) (ix1 ⟨j.val - 1, h1⟩)
        = s (ix1 ⟨j.val - 1, by omega⟩) - (FloatOps.ofBits .f32 0x48E00000#32 : Ideal .f32) := by
      pointwise
    rw [e, hs, word_spare, ← EReal.coe_sub]
    refine congrArg Real.toEReal ?_
    unfold tally
    rw [dif_pos h1]
    have : (⟨j.val - 1 + 1, by omega⟩ : Fin 11) = j := Fin.ext (by simp only; omega)
    simp only [this]
    norm_num
  · obtain rfl : j = Fin.last 10 := Fin.ext (by have := j.isLt; simp only [Fin.val_last]; omega)
    rw [above_last]
    exact word_zero

/-- The weighted loss at or above the edges. -/
theorem massesAbove_at (j : Fin 11) : massesAbove s (ix1 j) = (above (score X T) (weighted X T W) j : EReal) := by
  unfold massesAbove
  rw [join_at]
  split_ifs with h0 h1
  · obtain rfl : j = 0 := Fin.ext (by omega)
    rw [above_zero]
    have e : (extractStridedSlice S1 ![18] s slices_S20_S1_18 : Vec Ideal S1 .f32) (ix1 0) = s (ix1 18) := by
      pointwise
    rw [e, hs]
    refine congrArg Real.toEReal ?_
    unfold tally
    rw [dif_neg (by decide), dif_neg (by decide), if_pos (by decide)]
  · have e : (extractStridedSlice S9 ![9] s slices_S20_S9_9 : Vec Ideal S9 .f32) (ix1 ⟨j.val - 1, h1⟩)
        = s (ix1 ⟨9 + (j.val - 1), by omega⟩) := by
      pointwise
    rw [e, hs]
    refine congrArg Real.toEReal ?_
    unfold tally
    rw [dif_neg (by simp only; omega), dif_pos (by simp only; omega)]
    exact congrArg _ (Fin.ext (by simp only; omega))
  · obtain rfl : j = Fin.last 10 := Fin.ext (by have := j.isLt; simp only [Fin.val_last]; omega)
    rw [above_last]
    exact word_zero

theorem counts_at (b : Fin 10) : drops (countsAbove s) (ix1 b) = (cnt (score X T) b : EReal) := by
  rw [drops_at _ b _ _ (countsAbove_at X T W hs _) (countsAbove_at X T W hs _), ← mass_eq_sub]
  rfl

theorem masses_at (b : Fin 10) : drops (massesAbove s) (ix1 b) = (mass (score X T) (weighted X T W) b : EReal) := by
  rw [drops_at _ b _ _ (massesAbove_at X T W hs _) (massesAbove_at X T W hs _), ← mass_eq_sub]

theorem filledBins_at (i : S_.Idx) : filledBins (drops (countsAbove s)) i = (filled (score X T) : EReal) := by
  unfold filledBins filled
  refine total_at _ _ (fun b => ?_) i
  show ((holdsAny (drops (countsAbove s)) (ix1 b)).toNat : ℝ).toEReal = _
  rw [holdsAny_at _ b _ (counts_at X T W hs b)]
  split <;> simp

theorem binTotal_at (i : S_.Idx) :
    binTotal (drops (countsAbove s)) (drops (massesAbove s)) i = (perBin (score X T) (weighted X T W) : EReal) := by
  unfold binTotal perBin
  refine total_at _ _ (fun b => ?_) i
  have hc := counts_at X T W hs b
  have hm := masses_at X T W hs b
  have hh := holdsAny_at _ b _ hc
  generalize drops (countsAbove s) = n at hc hh ⊢
  generalize drops (massesAbove s) = q at hm ⊢
  generalize holdsAny n = z at hh ⊢
  pointwise
  simp only [hc, hm, hh]
  rw [← EReal.coe_one, real_max, show (0 : EReal) = ((0 : ℝ) : EReal) from rfl]
  have h1 : max (cnt (score X T) b) 1 ≠ 0 := (lt_of_lt_of_le one_pos (le_max_right _ _)).ne'
  by_cases h : 0 < cnt (score X T) b
  · rw [if_pos h, if_pos h]
    exact real_div _ h1
  · rw [if_neg h, if_neg h]
    exact (real_div 0 h1).trans (congrArg Real.toEReal (zero_div _))

theorem scaled_at (i : S_.Idx) :
    scaled (filledBins (drops (countsAbove s))) (binTotal (drops (countsAbove s)) (drops (massesAbove s))) i
      = (num X T W : EReal) := by
  have hn := filledBins_at X T W hs i
  have hb := binTotal_at X T W hs i
  generalize filledBins (drops (countsAbove s)) = n at hn ⊢
  generalize binTotal (drops (countsAbove s)) (drops (massesAbove s)) = b at hb ⊢
  unfold scaled
  pointwise
  have hp : 0 < filled (score X T) := filled_pos _
  have ht : Ideal.ofBits .f32 0x49C80000#32 = ((1638400 : ℝ) : EReal) := word_total
  have h1 : max (filled (score X T)) 1 ≠ 0 := (lt_of_lt_of_le one_pos (le_max_right _ _)).ne'
  rw [hn, hb, if_pos (EReal.coe_pos.2 hp), ht, ← EReal.coe_one, real_max, real_div _ h1, ← EReal.coe_mul]
  unfold num harmonised
  norm_num

theorem weightTotal_at (i : S_.Idx) : weightTotal s i = (den T W : EReal) := by
  unfold weightTotal
  pointwise
  have hh : Ideal.ofBits .f32 0x42C80000#32 = ((100 : ℝ) : EReal) := word_hundred
  rw [hs, hh, ← EReal.coe_mul]
  refine congrArg Real.toEReal ?_
  unfold tally den
  rw [dif_neg (by decide), dif_neg (by decide), if_neg (by decide)]

/-- The kernel's last lines make the loss. -/
theorem loss_at (i : S_.Idx) : loss s i = Ideal.div (num X T W : EReal) (den T W : EReal) := by
  unfold loss
  exact congrArg₂ Ideal.div (scaled_at X T W hs i) (weightTotal_at X T W hs i)

end Values

/-- What the kernel leaves at its result, where the memory holds real logits and every target names a real weight or none. -/
theorem kernel_value {m : (ℓ : Loc nD τ sig) → Buf (Elt Ideal) ℓ} {c : Dev nD} {X : Fin 16384 → Fin 100 → ℝ}
    {T : Fin 16384 → BitVec 32} {W : Fin 100 → ℝ} (h : Holds m c X T W) :
    Pipeline.afterTail₀ cfgs (dats m) 0 (V0 m) [hostOps1, hostOps1_1, hostOps1_2, hostOps1_3, hostOps1_4] c main_v41
      = fun _ => Ideal.div (num X T W : EReal) (den T W : EReal) := by
  rw [result_eq, final]
  exact funext fun i => loss_at X T W (fun k => (sums_at _ k).trans (parts_sum h k)) i

/-- What the kernel leaves at its result, where a target names an infinite class weight. -/
theorem kernel_zero {m : (ℓ : Loc nD τ sig) → Buf (Elt Ideal) ℓ} {c : Dev nD} {T : Fin 16384 → BitVec 32}
    {r : Fin 16384} {l : Fin 100} (h : Infinite m c T r l) :
    Pipeline.afterTail₀ cfgs (dats m) 0 (V0 m) [hostOps1, hostOps1_1, hostOps1_2, hostOps1_3, hostOps1_4] c main_v41
      = fun _ => (0 : EReal) := by
  rw [result_eq, final]
  refine funext fun i => Boundless.div_eq (x := weightTotal (sums (parts m c)) i) ?_ _
  have hs : Boundless (sums (parts m c) (ix1 19)) := by
    rw [sums_at]
    exact parts_boundless h
  generalize sums (parts m c) = s at hs ⊢
  unfold weightTotal
  pointwise
  have hh : Ideal.ofBits .f32 0x42C80000#32 = ((100 : ℝ) : EReal) := word_hundred
  rw [hh]
  exact hs.mul_pos (by norm_num)

end Cert.Ghm
-- ==== Proof.Reference.lean ====
/-
  WHAT THE REFERENCE COMPUTES, over the reals: its gradient norm is the logistic of the score, its loop over the bins
  gives each entry its bin's density, and its quotient is the harmonised loss over the weights' sum.
-/
module

public import proofs.«01_k».proof.Proof.Tail
public import proofs.«01_k».proof.Proof.Gen.ReferenceIdeal.Read
public import Idealize.ShloMosaic.Lib.IndicatorCount

@[expose] public section

set_option maxRecDepth 65536

noncomputable section

namespace Cert.Ghm.Ref

open Idealize.ShloMosaic Cert.ReferenceIdeal Cert.ReferenceIdeal.Gen Cert.ReferenceIdeal.Read

/-! ## The loop over the bins as a walk -/

section Walk

variable {F : FTy → Type} [FloatOps F]

/-- Which entries lie between a bin's two edges. -/
def binMask (g : FVec F S16384x100 .f32) (b : Fin 10) : IVec S16384x100 1 :=
  andi (cmpf .oge g (broadcastInDim S16384x100 ![] bcast_S_S16384x100 (constant S_ .f32 (edgeWord b.castSucc))))
    (cmpf .olt g (broadcastInDim S16384x100 ![] bcast_S_S16384x100 (constant S_ .f32 (edgeWord b.succ))))

/-- How many entries a mask holds. -/
def count (z : IVec S16384x100 1) : FVec F S_ .f32 :=
  sitofp .f32 (Host.reduce IntOp.addi (extui 32 z natLt_1_32) (constantI S_ 32 0#32) reducesTo_S16384x100_S_d0_1 h_S_)

/-- Whether a count is positive. -/
def positive (n : FVec F S_ .f32) : IVec S_ 1 := cmpf .ogt n (constant S_ .f32 0x00000000#32)

/-- One bin's turn: the entries of a bin that holds any take the bin's density. -/
def turn (z : IVec S16384x100 1) (w : FVec F S16384x100 .f32) : FVec F S16384x100 .f32 :=
  select (andi z (broadcastInDim S16384x100 ![] bcast_S_S16384x100 (positive (F := F) (count z))))
    (broadcastInDim S16384x100 ![] bcast_S_S16384x100
      (Host.divf (constant S_ .f32 0x49C80000#32) (maximumf (count z) (constant S_ .f32 0x3F800000#32)))) w

/-- The bins in order. -/
def bins : List (Fin 10) := [0, 1, 2, 3, 4, 5, 6, 7, 8, 9]

/-- The densities after the bins of a list. -/
def densities (g : FVec F S16384x100 .f32) (l : List (Fin 10)) (w : FVec F S16384x100 .f32) : FVec F S16384x100 .f32 :=
  l.foldl (fun w b => turn (binMask g b) w) w

/-- The number of filled bins after the bins of a list. -/
def filledCount (g : FVec F S16384x100 .f32) (l : List (Fin 10)) (n : FVec F S_ .f32) : FVec F S_ .f32 :=
  l.foldl (fun n b => addf n (uitofp .f32 (positive (F := F) (count (binMask g b))))) n

theorem densities_eq (x0 : FVec F S16384x100 .f32) (x1 : IVec S16384 32) :
    val_main_v173 (F := F) x0 x1 = densities (val_main_v14 (F := F) x0 x1) bins (val_main_v15 (F := F)) := rfl

theorem filledCount_eq (x0 : FVec F S16384x100 .f32) (x1 : IVec S16384 32) :
    val_main_v175 (F := F) x0 x1 = filledCount (val_main_v14 (F := F) x0 x1) bins (val_main_cst_8 (F := F)) := rfl

end Walk

/-! ## Over the reals -/

section Values

variable {y : Fin 16384 × Fin 100 → ℝ} {g : FVec Ideal S16384x100 .f32}

theorem bit_and (p q : Prop) [Decidable p] [Decidable q] :
    IntOp.andi (BitVec.ofBool (decide p)) (BitVec.ofBool (decide q)) = if p ∧ q then 1#1 else 0#1 := by
  by_cases hp : p <;> by_cases hq : q <;> simp [hp, hq] <;> decide

theorem binMask_at (hg : ∀ p : Fin 16384 × Fin 100, g (ix2 p.1 p.2) = (logistic (y p) : EReal)) (b : Fin 10)
    (p : Fin 16384 × Fin 100) : binMask g b (ix2 p.1 p.2) = if InBin b (y p) then 1#1 else 0#1 := by
  unfold binMask
  show IntOp.andi (Ideal.cmp .oge (g (ix2 p.1 p.2)) (FloatOps.ofBits .f32 (edgeWord b.castSucc) : Ideal .f32))
    (Ideal.cmp .olt (g (ix2 p.1 p.2)) (FloatOps.ofBits .f32 (edgeWord b.succ) : Ideal .f32)) = _
  rw [hg, word_edge, word_edge]
  unfold Ideal.cmp
  dsimp only
  rw [bit_and]
  simp only [EReal.coe_le_coe_iff, EReal.coe_lt_coe_iff]
  exact if_congr Iff.rfl rfl rfl

theorem count_at (z : IVec S16384x100 1) (b : Fin 10)
    (hz : ∀ p : Fin 16384 × Fin 100, z (ix2 p.1 p.2) = if InBin b (y p) then 1#1 else 0#1) (i : S_.Idx) :
    count (F := Ideal) z i = (cnt y b : EReal) := by
  unfold count
  show ((((Host.reduce IntOp.addi (extui 32 z natLt_1_32) (constantI S_ 32 0#32) reducesTo_S16384x100_S_d0_1 h_S_ i).toInt : ℝ)) : EReal) = _
  rw [Host.reduce_eq_fold]
  refine congrArg Real.toEReal ?_
  have h := IndicatorCount.fold_addi_setWidth_eq_card (w := 32) z (Finset.univ.filter fun j => reducesTo_S16384x100_S_d0_1.drop j = i)
  refine (congrArg (fun v : BitVec 32 => (v.toInt : ℝ)) h).trans ?_
  rw [cnt_eq_card]
  have e : (Finset.filter (fun k => z k = 1#1) (Finset.univ.filter fun j => reducesTo_S16384x100_S_d0_1.drop j = i)).card
      = (Finset.univ.filter fun p : Fin 16384 × Fin 100 => InBin b (y p)).card := by
    have hd : ∀ j : S16384x100.Idx, reducesTo_S16384x100_S_d0_1.drop j = i := fun j => funext fun a => a.elim0
    rw [Finset.filter_true_of_mem fun j _ => hd j, Finset.card_filter, Finset.card_filter, Fintype.sum_prod_type]
    refine (sum_idx2 _).trans (Finset.sum_congr rfl fun r _ => Finset.sum_congr rfl fun l _ => ?_)
    rw [hz (r, l)]
    by_cases hb : InBin b (y (r, l)) <;> simp [hb]
  rw [e]
  have hle : (Finset.univ.filter fun p : Fin 16384 × Fin 100 => InBin b (y p)).card ≤ 1638400 :=
    (Finset.card_le_univ _).trans (by simp)
  generalize (Finset.univ.filter fun p : Fin 16384 × Fin 100 => InBin b (y p)).card = k at hle ⊢
  have hk : (BitVec.ofNat 32 k).toInt = (k : ℤ) := by
    rw [BitVec.toInt_ofNat']
    exact Int.bmod_eq_of_le (by omega) (by omega)
  rw [hk]
  simp

variable (y) in
/-- The density the walk gives an entry from one bin. -/
def share (b : Fin 10) (p : Fin 16384 × Fin 100) : ℝ :=
  if InBin b (y p) ∧ 0 < cnt y b then 1638400 / max (cnt y b) 1 else 0

theorem positive_at (n : FVec Ideal S_ .f32) (r : ℝ) (i : S_.Idx) (h : n i = (r : EReal)) :
    positive n i = if 0 < r then 1#1 else 0#1 := by
  unfold positive
  show Ideal.cmp .ogt (n i) (FloatOps.ofBits .f32 0x00000000#32 : Ideal .f32) = _
  rw [h, word_zero]
  exact real_pos r

theorem turn_at (z : IVec S16384x100 1) (b : Fin 10)
    (hz : ∀ p : Fin 16384 × Fin 100, z (ix2 p.1 p.2) = if InBin b (y p) then 1#1 else 0#1)
    (w : FVec Ideal S16384x100 .f32) (f : ℝ) (p : Fin 16384 × Fin 100) (hw : w (ix2 p.1 p.2) = (f : EReal))
    (hf : InBin b (y p) → f = 0) : turn z w (ix2 p.1 p.2) = ((f + share y b p : ℝ) : EReal) := by
  have hc := count_at z b hz
  have hp := fun i => positive_at _ _ i (hc i)
  unfold turn
  generalize count (F := Ideal) z = n at hc hp ⊢
  generalize positive n = q at hp ⊢
  pointwise
  simp only [hz, hp, hc, hw]
  have ht : Ideal.ofBits .f32 0x49C80000#32 = ((1638400 : ℝ) : EReal) := word_total
  have h1 : max (cnt y b) 1 ≠ 0 := (lt_of_lt_of_le one_pos (le_max_right _ _)).ne'
  rw [ht, ← EReal.coe_one, real_max, real_div _ h1]
  unfold share
  by_cases hb : InBin b (y p)
  · rw [hf hb]
    by_cases hn : 0 < cnt y b
    · rw [if_pos hb, if_pos hn, if_pos ⟨hb, hn⟩, zero_add]; rfl
    · rw [if_pos hb, if_neg hn, if_neg (fun k : InBin b (y p) ∧ 0 < cnt y b => hn k.2), add_zero]; rfl
  · rw [if_neg hb, if_neg (fun k : InBin b (y p) ∧ 0 < cnt y b => hb k.1), add_zero]
    by_cases hn : 0 < cnt y b
    · rw [if_pos hn]; rfl
    · rw [if_neg hn]; rfl

/-- After the bins of a list an entry has its shares of all of them. -/
theorem densities_at (hg : ∀ p : Fin 16384 × Fin 100, g (ix2 p.1 p.2) = (logistic (y p) : EReal))
    (p : Fin 16384 × Fin 100) : ∀ (l : List (Fin 10)) (w : FVec Ideal S16384x100 .f32) (f : ℝ), l.Nodup →
      w (ix2 p.1 p.2) = (f : EReal) → (∀ b ∈ l, InBin b (y p) → f = 0) →
      densities g l w (ix2 p.1 p.2) = ((f + (l.map fun b => share y b p).sum : ℝ) : EReal)
  | [], w, f, _, hw, _ => by rw [List.map_nil, List.sum_nil, add_zero]; exact hw
  | b :: l, w, f, hl, hw, hf => by
    have ht := turn_at (binMask g b) b (binMask_at hg b) w f p hw (hf b List.mem_cons_self)
    rw [List.map_cons, List.sum_cons, ← add_assoc]
    refine densities_at hg p l _ _ (List.nodup_cons.1 hl).2 ht fun a ha hb => ?_
    rw [hf a (List.mem_cons_of_mem b ha) hb, zero_add]
    exact if_neg fun k : InBin b (y p) ∧ 0 < cnt y b => (List.nodup_cons.1 hl).1 ((hb.unique k.1) ▸ ha)

/-- After the bins of a list the count has grown by those that are filled. -/
theorem filledCount_at (hg : ∀ p : Fin 16384 × Fin 100, g (ix2 p.1 p.2) = (logistic (y p) : EReal)) (i : S_.Idx) :
    ∀ (l : List (Fin 10)) (n : FVec Ideal S_ .f32) (f : ℝ), n i = (f : EReal) →
      filledCount g l n i = ((f + (l.map fun b => if 0 < cnt y b then 1 else 0).sum : ℝ) : EReal)
  | [], n, f, hn => by rw [List.map_nil, List.sum_nil, add_zero]; exact hn
  | b :: l, n, f, hn => by
    rw [List.map_cons, List.sum_cons, ← add_assoc]
    refine filledCount_at hg i l _ _ ?_
    show n i + (((positive (F := Ideal) (count (binMask g b)) i).toNat : ℝ) : EReal) = _
    rw [hn, positive_at _ _ i (count_at _ b (binMask_at hg b) i), ← EReal.coe_add]
    split <;> simp

theorem sum_bins (f : Fin 10 → ℝ) : (bins.map f).sum = ∑ b, f b := by
  rw [Fin.sum_univ_def]
  rfl

end Values

section Entries

variable {X : Fin 16384 → Fin 100 → ℝ} {T : Fin 16384 → BitVec 32} {W : Fin 100 → ℝ}
  {x0 : FVec Ideal S16384x100 .f32} {x1 : IVec S16384 32} {x2 : FVec Ideal S100 .f32}
  (h0 : ∀ r l, x0 (ix2 r l) = (X r l : EReal)) (h1 : ∀ r, x1 (ix1 r) = T r)
  (h2 : ∀ r l, T r = BitVec.ofNat 32 l.val → x2 (ix1 l) = (W l : EReal))

include h1 in
theorem onehot_at (r : Fin 16384) (l : Fin 100) :
    val_main_v0 (F := Ideal) x1 (ix2 r l) = ((if T r = BitVec.ofNat 32 l.val then 1 else 0 : ℝ) : EReal) := by
  unfold val_main_v0 val_main_call0_v4 val_main_call0_v3 val_main_call0_v2 val_main_call0_v1 val_main_call0_v0
  pointwise
  simp only [h1]
  show (((IntOp.cmpi .eq (T r) (BitVec.ofNat 32 l.val)).toNat : ℝ) : EReal) = _
  refine congrArg Real.toEReal ?_
  by_cases h : T r = BitVec.ofNat 32 l.val
  · rw [if_pos h]
    simp [IntOp.cmpi, h]
  · rw [if_neg h]
    simp [IntOp.cmpi, h]

include h0 h1 in
theorem norm_at (p : Fin 16384 × Fin 100) :
    val_main_v14 (F := Ideal) x0 x1 (ix2 p.1 p.2) = (logistic (score X T p) : EReal) := by
  have h := onehot_at h1 p.1 p.2
  unfold val_main_v14 val_main_v13 val_main_v12 val_main_v11 val_main_v10 val_main_v9 val_main_v8 val_main_v7
    val_main_cst_0 val_main_cst_1
  generalize val_main_v0 (F := Ideal) x1 = z at h ⊢
  pointwise
  simp only [h0, h]
  have hp : (1 + Real.exp (-X p.1 p.2)) ≠ 0 := by positivity
  rw [Ideal.absf_def, ← EReal.coe_neg, Ideal.exp_coe, ← EReal.coe_one, ← EReal.coe_add, real_div _ hp, ← EReal.coe_sub,
    ← EReal.coe_neg, real_max, ← abs_eq_max_neg, one_div]
  refine congrArg Real.toEReal ?_
  show |logistic (X p.1 p.2) - _| = _
  unfold score
  split
  · rw [logistic_neg, abs_sub_comm, abs_of_pos (sub_pos.2 (logistic_lt_one _))]
  · rw [sub_zero, abs_of_pos (logistic_pos _)]

include h1 in
theorem weights_chosen (r : Fin 16384) (l : Fin 100) :
    val_main_v6 (F := Ideal) x1 x2 (ix2 r l) = chosen T (fun c => x2 (ix1 c)) r := by
  have h := onehot_at h1 r
  unfold val_main_v6 val_main_v5 val_main_v4 val_main_v3 val_main_v2 val_main_v1 val_main_cst
  generalize val_main_v0 (F := Ideal) x1 = z at h ⊢
  pointwise
  simp only [h]
  refine Finset.sum_congr rfl fun c _ => ?_
  split_ifs
  · rw [EReal.coe_one, mul_one]
  · rw [EReal.coe_zero, mul_zero]

include h1 h2 in
theorem weights_at (r : Fin 16384) (l : Fin 100) :
    val_main_v6 (F := Ideal) x1 x2 (ix2 r l) = (rowWeight T W r : EReal) :=
  (weights_chosen h1 r l).trans (chosen_real T _ r (h2 r))

include h0 h1 in
theorem loss_at (p : Fin 16384 × Fin 100) :
    val_main_v189 (F := Ideal) x0 x1 (ix2 p.1 p.2) = (bce (score X T p) : EReal) := by
  have h := onehot_at h1 p.1 p.2
  unfold val_main_v189 val_main_v188 val_main_v187 val_main_v186 val_main_v185 val_main_v184 val_main_v183 val_main_v182
    val_main_v181 val_main_cst_65
  generalize val_main_v0 (F := Ideal) x1 = z at h ⊢
  pointwise
  simp only [h0, h]
  have hl : Ideal.log1p (Ideal.exp (-max (X p.1 p.2 : EReal) (-(X p.1 p.2 : EReal))))
      = ((Real.log (1 + Real.exp (-|X p.1 p.2|)) : ℝ) : EReal) := by
    have h1 : (0 : ℝ) < 1 + Real.exp (-|X p.1 p.2|) := by positivity
    rw [← EReal.coe_neg, real_max, ← EReal.coe_neg, Ideal.exp_coe, ← abs_eq_max_neg]
    unfold Ideal.log1p
    rw [← EReal.coe_one, ← EReal.coe_add, Ideal.log_coe, if_neg (not_le.2 h1)]
  rw [Ideal.absf_def, hl, ← EReal.coe_zero, real_max, ← EReal.coe_mul, ← EReal.coe_sub, ← EReal.coe_add]
  refine congrArg Real.toEReal ?_
  unfold score bce
  split
  · rw [abs_neg, mul_one]
    refine congrArg (· + _) ?_
    rcases le_total (X p.1 p.2) 0 with hx | hx
    · rw [max_eq_right hx, max_eq_left (neg_nonneg.2 hx), zero_sub]
    · rw [max_eq_left hx, max_eq_right (neg_nonpos.2 hx), sub_self]
  · rw [mul_zero, sub_zero]

include h0 h1 in
theorem scale_at (p : Fin 16384 × Fin 100) :
    val_main_v180 (F := Ideal) x0 x1 (ix2 p.1 p.2)
      = ((density (score X T) 1638400 (score X T p) / max (filled (score X T)) 1 : ℝ) : EReal) := by
  have hg := norm_at h0 h1
  have hn : ∀ i, val_main_v175 (F := Ideal) x0 x1 i = (filled (score X T) : EReal) := fun i => by
    rw [filledCount_eq, filledCount_at hg i bins _ 0 word_zero, sum_bins, zero_add]
    rfl
  have hd : val_main_v173 (F := Ideal) x0 x1 (ix2 p.1 p.2) = (density (score X T) 1638400 (score X T p) : EReal) := by
    rw [densities_eq, densities_at hg p bins _ 0 (by decide) word_zero (fun _ _ _ => rfl), sum_bins, zero_add]
    rfl
  unfold val_main_v180 val_main_v179 val_main_v178 val_main_v177 val_main_v176 val_main_cst_63 val_main_cst_64
  generalize val_main_v175 (F := Ideal) x0 x1 = n at hn ⊢
  generalize val_main_v173 (F := Ideal) x0 x1 = d at hd ⊢
  pointwise
  simp only [hn, hd]
  rw [if_pos (EReal.coe_pos.2 (filled_pos (score X T))), ← EReal.coe_one, real_max,
    real_div _ (lt_of_lt_of_le one_pos (le_max_right _ _)).ne']

include h0 h1 h2 in
/-- The reference's numerator. -/
theorem numerator_at (i : S_.Idx) : val_main_v192 (F := Ideal) x0 x1 x2 i = (num X T W : EReal) := by
  rw [val_main_v192_apply]
  refine (congrArg (· + _) word_zero).trans ((zero_add _).trans ((sum_idx2 _).trans ?_))
  have e : ∀ r l, val_main_v191 (F := Ideal) x0 x1 x2 (ix2 r l)
      = ((weighted X T W (r, l) * (density (score X T) 1638400 (score X T (r, l)) / max (filled (score X T)) 1) : ℝ) : EReal) :=
    fun r l => by
      show val_main_v6 (F := Ideal) x1 x2 (ix2 r l)
        * (val_main_v189 (F := Ideal) x0 x1 (ix2 r l) * val_main_v180 (F := Ideal) x0 x1 (ix2 r l)) = _
      rw [weights_at h1 h2 r l, loss_at h0 h1 (r, l), scale_at h0 h1 (r, l), ← EReal.coe_mul, ← EReal.coe_mul, ← mul_assoc]
      rfl
  simp only [e]
  rw [num, ← sum_density, Fintype.sum_prod_type, coe_sum]
  refine Finset.sum_congr rfl fun r _ => ?_
  rw [coe_sum]
  norm_num

include h1 h2 in
/-- The reference's denominator. -/
theorem denominator_at (i : S_.Idx) : val_main_v193 (F := Ideal) x1 x2 i = (den T W : EReal) := by
  rw [val_main_v193_apply]
  refine (congrArg (· + _) word_zero).trans ((zero_add _).trans ((sum_idx2 _).trans ?_))
  simp only [weights_at h1 h2, ← coe_sum]
  refine congrArg Real.toEReal ?_
  unfold den
  rw [Finset.sum_mul]
  refine Finset.sum_congr rfl fun r _ => ?_
  simp [mul_comm]

include h0 h1 h2 in
/-- The reference's result. -/
theorem reference_value :
    val_main_v194 (F := Ideal) x0 x1 x2 = fun _ => Ideal.div (num X T W : EReal) (den T W : EReal) :=
  funext fun i => (val_main_v194_apply _ _ _ i).trans
    (congrArg₂ Ideal.div (numerator_at h0 h1 h2 i) (denominator_at h1 h2 i))

include h1 in
/-- The reference's result where a target names an infinite class weight. -/
theorem reference_zero {r : Fin 16384} {l : Fin 100} (hn : T r = BitVec.ofNat 32 l.val) (hb : Boundless (x2 (ix1 l))) :
    val_main_v194 (F := Ideal) x0 x1 x2 = fun _ => (0 : EReal) := by
  refine funext fun i => (val_main_v194_apply _ _ _ i).trans (Boundless.div_eq ?_ _)
  rw [val_main_v193_apply]
  refine Boundless.add_left ?_ _
  rw [sum_idx2]
  refine .sum r (.sum (0 : Fin 100) ?_)
  rw [weights_chosen h1]
  exact .chosen hn hb

end Entries

end Cert.Ghm.Ref
-- ==== Proof.Pre.lean ====
/-
  WHAT THE PRECONDITION GIVES: every logit is a real number.
-/
module

public import proofs.«01_k».proof.Proof.Tail
public import proofs.«01_k».proof.Pre_finite
public import proofs.«01_k».proof.Proof.Gen.Pre_finite
public import Idealize.ShloMosaic.Lib.ReduceAll

@[expose] public section

noncomputable section

namespace Cert.Ghm

open Idealize.ShloMosaic Cert.Pre_finite Cert.Pre_finite.Facts

/-- The word the precondition compares with is infinity. -/
theorem infinity_word : Ideal.ofBits .f32 0x7F800000#32 = ⊤ := by
  unfold Ideal.ofBits Ideal.ieee
  dsimp only
  rw [if_pos (by decide), if_pos (by decide), if_neg (by decide)]

/-- An extended real below infinity in magnitude is a real. -/
theorem real_of_abs_lt (x : EReal) (h : max x (-x) < ⊤) : x = ((x.toReal : ℝ) : EReal) :=
  (EReal.coe_toReal (fun e => by simp [e] at h) (fun e => by simp [e] at h)).symm

/-- A comparison with infinity that came out true makes the compared entry real. -/
theorem real_of_finite (x : EReal)
    (h : BitVec.ofBool (decide (max x (-x) < Ideal.ofBits .f32 0x7F800000#32)) = 1#1) : x = ((x.toReal : ℝ) : EReal) := by
  rw [infinity_word] at h
  refine real_of_abs_lt x ?_
  by_contra hx
  rw [decide_eq_false hx] at h
  exact absurd h (by decide)

/-- The precondition makes each logit real. -/
theorem logits_real {x0 : FVec Ideal S16384x100 .f32} {x1 : IVec S16384 32} {x2 : FVec Ideal S100 .f32}
    (h : Cert.Pre_finite.fn (F := Ideal) x0 x1 x2 = fun _ => 1#1) (i : S16384x100.Idx) :
    (x0 i : EReal) = (((x0 i : EReal).toReal : ℝ) : EReal) :=
  real_of_finite _ (Host.reduce_andi_all _ _ _ _ _ (congrFun h (Shape.Idx.first h_S_)) i)

end Cert.Ghm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import proofs.«01_k».proof.Proof.Reference
public import proofs.«01_k».proof.Proof.Pre

@[expose] public section

noncomputable section

namespace Cert.Proof

open Idealize.ShloMosaic Idealize.SL.Sem

/-- Each rounded logit of an edge stands, at the ideal, for the logit itself. -/
theorem preserves : Cert.preserves_Kernel_KernelIdeal :=
  ⟨IdealRules.named_const.statement Cert.KernelIdeal.κ "logit_1" .f32 0xC00C9F54#32 _ rfl,
    IdealRules.named_const.statement Cert.KernelIdeal.κ "logit_2" .f32 0xBFB17218#32 _ rfl,
    IdealRules.named_const.statement Cert.KernelIdeal.κ "logit_3" .f32 0xBF58E882#32 _ rfl,
    IdealRules.named_const.statement Cert.KernelIdeal.κ "logit_4" .f32 0xBECF991F#32 _ rfl,
    IdealRules.named_const.statement Cert.KernelIdeal.κ "logit_6" .f32 0x3ECF9923#32 _ rfl,
    IdealRules.named_const.statement Cert.KernelIdeal.κ "logit_7" .f32 0x3F58E882#32 _ rfl,
    IdealRules.named_const.statement Cert.KernelIdeal.κ "logit_8" .f32 0x3FB17219#32 _ rfl,
    IdealRules.named_const.statement Cert.KernelIdeal.κ "logit_9" .f32 0x400C9F53#32 _ rfl⟩

/-- The reference has no semaphores. -/
theorem no_semaphores (s : SemLoc Cert.ReferenceIdeal.sig) : False := by
  rcases s with ⟨i⟩ | ⟨i⟩
  · exact i.elim0
  · exact i.elim0

/-- The reference runs, leaves its arguments as they were and its counters at zero. -/
theorem frame_reference : Cert.quiescent_ReferenceIdeal := fun m g _ =>
  θ_run_mono (Cert.ReferenceIdeal.Value.run m g) fun _ h => ⟨fun c => (h c).2, funext fun s => (no_semaphores s.2).elim⟩

section Launch

variable (m : (ℓ : Loc Cert.KernelIdeal.nD Cert.KernelIdeal.τ Cert.KernelIdeal.sig) → Buf (Elt Ideal) ℓ)
  (c : Dev Cert.KernelIdeal.nD)

/-- The logits, the targets and the class weights in the kernel's memory. -/
def logits : Vec Ideal Cert.KernelIdeal.S16384x100 .f32 :=
  m ((c.tc : Thread Cert.KernelIdeal.nD Cert.KernelIdeal.τ).loc Cert.KernelIdeal.main_arg0)

def targets : Vec Ideal Cert.KernelIdeal.S16384 .i32 :=
  m ((c.tc : Thread Cert.KernelIdeal.nD Cert.KernelIdeal.τ).loc Cert.KernelIdeal.main_arg1)

def weights : Vec Ideal Cert.KernelIdeal.S100 .f32 :=
  m ((c.tc : Thread Cert.KernelIdeal.nD Cert.KernelIdeal.τ).loc Cert.KernelIdeal.main_arg2)

/-- The kernel's memory holds the real parts of its logits and weights, where the precondition makes the logits real
    and the weights that the targets name are real. -/
theorem holds (h : Cert.Pre_KernelIdeal_finite m) (hw : ∀ (r : Fin 16384) (l : Fin 100),
      targets m c (ix1 r) = BitVec.ofNat 32 l.val → weights m c (ix1 l) = ((weights m c (ix1 l) : EReal).toReal : EReal)) :
    Ghm.Holds m c (fun r l => EReal.toReal (logits m c (ix2 r l))) (fun r => targets m c (ix1 r))
      (fun l => EReal.toReal (weights m c (ix1 l))) :=
  ⟨fun r l => Ghm.logits_real (h c) (ix2 r l), fun _ => rfl, hw⟩

end Launch

/-- From finite logits the kernel and the reference end with the same loss: the quotient of the harmonised sum by the
    weights' sum where every weight that a target names is real, zero where one is infinite. -/
theorem algebraic : Cert.algebraic_KernelIdeal_ReferenceIdeal_pre_finite := by
  pair_intro
  · run_from Cert.KernelIdeal.Gen.run_main m g
  · refine θ_run_mono (Cert.ReferenceIdeal.Value.run m' g') fun r h c => ?_
    obtain ⟨e0, e1, e2⟩ := hagree c
    refine ⟨((h c).1.trans (Cert.ReferenceIdeal.Read.val_main_v194_eq _)).trans ?_, (h c).2⟩
    by_cases hw : ∀ (r : Fin 16384) (l : Fin 100), targets m c (ix1 r) = BitVec.ofNat 32 l.val →
        weights m c (ix1 l) = ((weights m c (ix1 l) : EReal).toReal : EReal)
    · have hh := holds m c hpre hw
      exact (Ghm.Ref.reference_value (fun r l => (congrFun e0 (ix2 r l)).trans (hh.logits r l))
        (fun r => (congrFun e1 (ix1 r)).trans (hh.targets r))
        fun r l hl => (congrFun e2 (ix1 l)).trans (hh.weights r l hl)).trans (Ghm.kernel_value hh).symm
    · push Not at hw
      obtain ⟨r, l, hn, hl⟩ := hw
      have hb := Ghm.Boundless.of_not_real hl
      exact (Ghm.Ref.reference_zero (T := fun r => targets m c (ix1 r)) (fun r => congrFun e1 (ix1 r)) hn
        ((congrArg Ghm.Boundless (congrFun e2 (ix1 l))).mpr hb)).trans
          (Ghm.kernel_zero (T := fun r => targets m c (ix1 r)) ⟨fun _ => rfl, hn, hb⟩).symm

/-- The claims together. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m g _ => frame_reference m g trivial, preserves,
    algebraic⟩

end Cert.Proof

end
